-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clamp_idle [hPre_clamp_idle : Cert.Pre_clamp_idle.Facts] (m : (ℓ : Loc Cert.KernelIdeal.nD Cert.KernelIdeal.τ Cert.KernelIdeal.sig) → Buf (Elt Ideal) ℓ) : Prop :=
  ∀ c : Dev Cert.KernelIdeal.nD,
    (Cert.Pre_clamp_idle.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clamp_idle [hPre_clamp_idle : Cert.Pre_clamp_idle.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clamp_idle.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_clamp_idle [hKernelIdeal : Cert.KernelIdeal.Facts] [hPre_clamp_idle : Cert.Pre_clamp_idle.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clamp_idle m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_clamp_idle [hReferenceIdeal : Cert.ReferenceIdeal.Facts] [hPre_clamp_idle : Cert.Pre_clamp_idle.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clamp_idle m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_clamp_idle [hKernelIdeal : Cert.KernelIdeal.Facts] [hReferenceIdeal : Cert.ReferenceIdeal.Facts] [hPre_clamp_idle : Cert.Pre_clamp_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clamp_idle m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_clamp_idle : Cert.Pre_clamp_idle.Facts),
    quiescent_Kernel (hKernel := hKernel)
    ∧ quiescent_KernelIdeal (hKernelIdeal := hKernelIdeal)
    ∧ quiescent_KernelIdeal_pre_clamp_idle (hKernelIdeal := hKernelIdeal) (hPre_clamp_idle := hPre_clamp_idle)
    ∧ quiescent_ReferenceIdeal (hReferenceIdeal := hReferenceIdeal)
    ∧ quiescent_ReferenceIdeal_pre_clamp_idle (hReferenceIdeal := hReferenceIdeal) (hPre_clamp_idle := hPre_clamp_idle)
    ∧ preserves_Kernel_KernelIdeal
    ∧ algebraic_KernelIdeal_ReferenceIdeal_pre_clamp_idle (hKernelIdeal := hKernelIdeal) (hReferenceIdeal := hReferenceIdeal) (hPre_clamp_idle := hPre_clamp_idle)
-- ==== Pre_clamp_idle.lean ====
abbrev S8x2048x768 : Shape := ⟨3, ![8, 2048, 768]⟩
abbrev S8x2048 : Shape := ⟨2, ![8, 2048]⟩
abbrev S768x768 : Shape := ⟨2, ![768, 768]⟩
abbrev S768 : Shape := ⟨1, ![768]⟩
abbrev S_ : Shape := ⟨0, ![]⟩
abbrev S8x1 : Shape := ⟨2, ![8, 1]⟩
abbrev S8 : Shape := ⟨1, ![8]⟩
abbrev S8x2048x1 : Shape := ⟨3, ![8, 2048, 1]⟩
abbrev S8x2048x2 : Shape := ⟨3, ![8, 2048, 2]⟩
abbrev S1x1x768 : Shape := ⟨3, ![1, 1, 768]⟩
abbrev S8x2048x8x96 : Shape := ⟨4, ![8, 2048, 8, 96]⟩
abbrev S8x2048x8 : Shape := ⟨3, ![8, 2048, 8]⟩
abbrev S8x8 : Shape := ⟨2, ![8, 8]⟩
abbrev S8x1x8 : Shape := ⟨3, ![8, 1, 8]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S8x2048 : S_.BroadcastsInDim S8x2048 (![] : Fin 0 → Fin S8x2048.rank)
  natLt_1_32 : 1 < 32
  bcast_S_S_ : S_.BroadcastsInDim S_ (![] : Fin 0 → Fin S_.rank)
  reduceWindows_S8x2048_S8x2048_w1s1p0_0_w2048s1p2047_0 : S8x2048.ReduceWindows (![1, 2048] : Fin 2 → Nat) ![1, 1] ![0, 2047] ![0, 0] S8x2048
  slices_S8x2048_S8x1_0_0 : S8x2048.Slices ![0, 0] S8x1
  bcast_S8x1_S8x2048_0_1 : S8x1.BroadcastsInDim S8x2048 (![0, 1] : Fin 2 → Fin S8x2048.rank)
  bcast_S8_S8x1_0 : S8.BroadcastsInDim S8x1 (![0] : Fin 1 → Fin S8x1.rank)
  bcast_S_S8x1 : S_.BroadcastsInDim S8x1 (![] : Fin 0 → Fin S8x1.rank)
  bcast_S8x2048_S8x2048x1_0_1 : S8x2048.BroadcastsInDim S8x2048x1 (![0, 1] : Fin 2 → Fin S8x2048x1.rank)
  concatenates_S8x2048x1_S8x2048x1_S8x2048x2_d2 : Shape.Concatenates [S8x2048x1, S8x2048x1] S8x2048x2 2
  bcast_S8x2048x1_S8x2048x768_0_1_2 : S8x2048x1.BroadcastsInDim S8x2048x768 (![0, 1, 2] : Fin 3 → Fin S8x2048x768.rank)
  transposes_S768x768_S768x768_1_0 : S768x768.Transposes [1, 0] S768x768
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  shapeCasts_S8x2048x768_S8x2048x8x96 : S8x2048x768.ShapeCasts S8x2048x8x96
  reducesTo_S8x2048x8x96_S8x2048x8_d3 : S8x2048x8x96.ReducesTo [3] S8x2048x8
  bcast_S_S8x2048x8 : S_.BroadcastsInDim S8x2048x8 (![] : Fin 0 → Fin S8x2048x8.rank)
  reducesTo_S8x2048x8_S8x8_d1 : S8x2048x8.ReducesTo [1] S8x8
  bcast_S8x8_S8x1x8_0_2 : S8x8.BroadcastsInDim S8x1x8 (![0, 2] : Fin 2 → Fin S8x1x8.rank)
  bcast_S8x1x8_S8x2048x8_0_1_2 : S8x1x8.BroadcastsInDim S8x2048x8 (![0, 1, 2] : Fin 3 → Fin S8x2048x8.rank)
  bcast_S_S8x2048x1 : S_.BroadcastsInDim S8x2048x1 (![] : Fin 0 → Fin S8x2048x1.rank)
  bcast_S8x2048x1_S8x2048x8_0_1_2 : S8x2048x1.BroadcastsInDim S8x2048x8 (![0, 1, 2] : Fin 3 → Fin S8x2048x8.rank)
  reducesTo_S8x2048x8_S_d0_1_2 : S8x2048x8.ReducesTo [0, 1, 2] S_
  scatter_S8x2048_S8x2048x2_S8x2048_n_01_01_2_wf : ScatterDims.WF S8x2048 S8x2048x2 S8x2048 [] [0, 1] [0, 1] 2
  scatter_S8x2048x768_S8x2048x2_S8x2048x768_2_01_01_2_wf : ScatterDims.WF S8x2048x768 S8x2048x2 S8x2048x768 [2] [0, 1] [0, 1] 2
  dot_S8x2048x768_S768x768_S8x2048x768_2_0_01_1_n_n_wf : DotDims.WF S8x2048x768 S768x768 S8x2048x768 [2] [0] [0, 1] [1] [] []
  gather_S8x2048x8x96_S8x2048x2_S8x2048x8x96_23_01_n_n_01_2_11896_wf : GatherDims.WF S8x2048x8x96 S8x2048x2 S8x2048x8x96 [2, 3] [0, 1] [] [0, 1] [] 2 ![1, 1, 8, 96]
  scatter_S8x2048x8_S8x2048x2_S8x2048x8_2_01_01_2_wf : ScatterDims.WF S8x2048x8 S8x2048x2 S8x2048x8 [2] [0, 1] [0, 1] 2

variable [Facts]

def scatter_S8x2048_S8x2048x2_S8x2048_n_01_01_2 : ScatterDims S8x2048 S8x2048x2 S8x2048 where
  updateWindowDims := []
  insertedWindowDims := [0, 1]
  scatterDimsToOperandDims := [0, 1]
  indexVectorDim := 2
  wf := scatter_S8x2048_S8x2048x2_S8x2048_n_01_01_2_wf
def scatter_S8x2048x768_S8x2048x2_S8x2048x768_2_01_01_2 : ScatterDims S8x2048x768 S8x2048x2 S8x2048x768 where
  updateWindowDims := [2]
  insertedWindowDims := [0, 1]
  scatterDimsToOperandDims := [0, 1]
  indexVectorDim := 2
  wf := scatter_S8x2048x768_S8x2048x2_S8x2048x768_2_01_01_2_wf
def dot_S8x2048x768_S768x768_S8x2048x768_2_0_01_1_n_n : DotDims S8x2048x768 S768x768 S8x2048x768 where
  lhsContracting := [2]
  rhsContracting := [0]
  lhsNonContracting := [0, 1]
  rhsNonContracting := [1]
  lhsBatch := []
  rhsBatch := []
  wf := dot_S8x2048x768_S768x768_S8x2048x768_2_0_01_1_n_n_wf
def gather_S8x2048x8x96_S8x2048x2_S8x2048x8x96_23_01_n_n_01_2_11896 : GatherDims S8x2048x8x96 S8x2048x2 S8x2048x8x96 where
  offsetDims := [2, 3]
  collapsedSliceDims := [0, 1]
  operandBatchingDims := []
  startIndicesBatchingDims := []
  startIndexMap := [0, 1]
  indexVectorDim := 2
  sliceSizes := ![1, 1, 8, 96]
  wf := gather_S8x2048x8x96_S8x2048x2_S8x2048x8x96_23_01_n_n_01_2_11896_wf
def scatter_S8x2048x8_S8x2048x2_S8x2048x8_2_01_01_2 : ScatterDims S8x2048x8 S8x2048x2 S8x2048x8 where
  updateWindowDims := [2]
  insertedWindowDims := [0, 1]
  scatterDimsToOperandDims := [0, 1]
  indexVectorDim := 2
  wf := scatter_S8x2048x8_S8x2048x2_S8x2048x8_2_01_01_2_wf
def fn_cumsum_0 {F : FTy → Type} [FloatOps F] (arg0 : IVec S8x2048 32) : IVec S8x2048 32 :=
  let c : IVec S_ 32 := constantI S_ 32 0#32
  let v0 : IVec S_ 32 := broadcastInDim S_ ![] bcast_S_S_ c
  let v1 : IVec S8x2048 32 := (fun x v => Host.reduceWindow IntOp.addi ![1, 2048] ![1, 1] ![0, 2047] ![0, 0] x v reduceWindows_S8x2048_S8x2048_w1s1p0_0_w2048s1p2047_0 h_S_) arg0 v0
  v1

def fn_cumsum {F : FTy → Type} [FloatOps F] (arg0 : IVec S8x2048 32) : IVec S8x2048 32 :=
  let v0 : IVec S8x2048 32 := fn_cumsum_0 (F := F) arg0
  v0

def fn_part7 {F : FTy → Type} [FloatOps F] (main_v24 : IVec S_ 1) (main_v128 : IVec S8x2048x8 1) (main_v129 : IVec S8x2048x8 1) : IVec S_ 1 :=
  let main_v130 : IVec S8x2048x8 1 := ori main_v129 main_v128
  let main_c_36 : IVec S_ 1 := constantI S_ 1 1#1
  let main_v131 : IVec S_ 1 := (fun x v => Host.reduce IntOp.andi x v reducesTo_S8x2048x8_S_d0_1_2 h_S_) main_v130 main_c_36
  let main_v132 : IVec S_ 1 := andi main_v24 main_v131
  main_v132

def fn_part6 {F : FTy → Type} [FloatOps F] (main_v24 : IVec S_ 1) (main_v31 : IVec S8x2048 32) (main_v33 : IVec S8x1 32) (main_v50 : FVec F S8x2048 .f32) (main_v107 : FVec F S8x2048x8 .f32) (main_v108 : FVec F S8x2048x8 .f32) (main_v110 : IVec S8x1 1) : IVec S_ 1 :=
  let main_c_31 : IVec S_ 32 := constantI S_ 32 8#32
  let main_v111 : IVec S8x1 32 := broadcastInDim S8x1 ![] bcast_S_S8x1 main_c_31
  let main_v112 : IVec S8x1 32 := addi main_v33 main_v111
  let main_v113 : IVec S8x1 32 := select main_v110 main_v112 main_v33
  let main_c_32 : IVec S_ 32 := constantI S_ 32 0#32
  let main_v114 : IVec S8x2048 32 := broadcastInDim S8x2048 ![] bcast_S_S8x2048 main_c_32
  let main_v115 : IVec S8x2048 1 := cmpi .slt main_v31 main_v114
  let main_c_33 : IVec S_ 32 := constantI S_ 32 2048#32
  let main_v116 : IVec S8x2048 32 := broadcastInDim S8x2048 ![] bcast_S_S8x2048 main_c_33
  let main_v117 : IVec S8x2048 32 := addi main_v31 main_v116
  let main_v118 : IVec S8x2048 32 := select main_v115 main_v117 main_v31
  let main_v119 : IVec S8x2048 32 := broadcastInDim S8x2048 ![0, 1] bcast_S8x1_S8x2048_0_1 main_v113
  let main_v120 : IVec S8x2048x1 32 := broadcastInDim S8x2048x1 ![0, 1] bcast_S8x2048_S8x2048x1_0_1 main_v119
  let main_v121 : IVec S8x2048x1 32 := broadcastInDim S8x2048x1 ![0, 1] bcast_S8x2048_S8x2048x1_0_1 main_v118
  let main_v122 : IVec S8x2048x2 32 := (fun a b => concatenate S8x2048x2 2 [⟨S8x2048x1, a⟩, ⟨S8x2048x1, b⟩] concatenates_S8x2048x1_S8x2048x1_S8x2048x2_d2) main_v120 main_v121
  let main_v123 : FVec F S8x2048x8 .f32 := (fun x i u => Host.scatterAdd scatter_S8x2048x8_S8x2048x2_S8x2048x8_2_01_01_2 x i u) main_v108 main_v122 main_v107
  let main_v124 : FVec F S8x2048x1 .f32 := broadcastInDim S8x2048x1 ![0, 1] bcast_S8x2048_S8x2048x1_0_1 main_v50
  let main_cst_34 : FVec F S_ .f32 := constant S_ .f32 0x00000000#32
  let main_v125 : FVec F S8x2048x1 .f32 := broadcastInDim S8x2048x1 ![] bcast_S_S8x2048x1 main_cst_34
  let main_v126 : IVec S8x2048x1 1 := cmpf .oeq main_v124 main_v125
  let main_cst_35 : FVec F S_ .f32 := constant S_ .f32 0x0DA24260#32
  let main_v127 : FVec F S8x2048x8 .f32 := broadcastInDim S8x2048x8 ![] bcast_S_S8x2048x8 main_cst_35
  let main_v128 : IVec S8x2048x8 1 := cmpf .oge main_v123 main_v127
  let main_v129 : IVec S8x2048x8 1 := broadcastInDim S8x2048x8 ![0, 1, 2] bcast_S8x2048x1_S8x2048x8_0_1_2 main_v126
  fn_part7 (F := F) main_v24 main_v128 main_v129

def fn_part5 {F : FTy → Type} [FloatOps F] (main_v24 : IVec S_ 1) (main_v31 : IVec S8x2048 32) (main_v33 : IVec S8x1 32) (main_v50 : FVec F S8x2048 .f32) (main_v77 : FVec F S8x2048x8x96 .f32) (main_v83 : FVec F S8x2048x8x96 .f32) (main_v88 : IVec S8x1 32) (main_v90 : IVec S8x2048 1) (main_v91 : IVec S8x2048 32) : IVec S_ 1 :=
  let main_v92 : IVec S8x2048 32 := addi main_v31 main_v91
  let main_v93 : IVec S8x2048 32 := select main_v90 main_v92 main_v31
  let main_v94 : IVec S8x2048 32 := broadcastInDim S8x2048 ![0, 1] bcast_S8x1_S8x2048_0_1 main_v88
  let main_v95 : IVec S8x2048x1 32 := broadcastInDim S8x2048x1 ![0, 1] bcast_S8x2048_S8x2048x1_0_1 main_v94
  let main_v96 : IVec S8x2048x1 32 := broadcastInDim S8x2048x1 ![0, 1] bcast_S8x2048_S8x2048x1_0_1 main_v93
  let main_v97 : IVec S8x2048x2 32 := (fun a b => concatenate S8x2048x2 2 [⟨S8x2048x1, a⟩, ⟨S8x2048x1, b⟩] concatenates_S8x2048x1_S8x2048x1_S8x2048x2_d2) main_v95 main_v96
  let main_v98 : FVec F S8x2048x8x96 .f32 := (fun x i => Host.gather gather_S8x2048x8x96_S8x2048x2_S8x2048x8x96_23_01_n_n_01_2_11896 x i) main_v77 main_v97
  let main_v99 : FVec F S8x2048x8x96 .f32 := mulf main_v98 main_v83
  let main_cst_26 : FVec F S_ .f32 := constant S_ .f32 0x00000000#32
  let main_v100 : FVec F S8x2048x8 .f32 := (fun x v => Host.reduceAdd x v reducesTo_S8x2048x8x96_S8x2048x8_d3 h_S_) main_v99 main_cst_26
  let main_cst_27 : FVec F S_ .f32 := constant S_ .f32 0x3DD105EC#32
  let main_v101 : FVec F S8x2048x8 .f32 := broadcastInDim S8x2048x8 ![] bcast_S_S8x2048x8 main_cst_27
  let main_v102 : FVec F S8x2048x8 .f32 := mulf main_v100 main_v101
  let main_cst_28 : FVec F S_ .f32 := constant S_ .f32 0xFF800000#32
  let main_v103 : FVec F S8x8 .f32 := (fun x v => Host.reduce FloatOps.maximumf x v reducesTo_S8x2048x8_S8x8_d1 h_S_) main_v102 main_cst_28
  let main_v104 : FVec F S8x1x8 .f32 := broadcastInDim S8x1x8 ![0, 2] bcast_S8x8_S8x1x8_0_2 main_v103
  let main_v105 : FVec F S8x2048x8 .f32 := broadcastInDim S8x2048x8 ![0, 1, 2] bcast_S8x1x8_S8x2048x8_0_1_2 main_v104
  let main_v106 : FVec F S8x2048x8 .f32 := subf main_v102 main_v105
  let main_v107 : FVec F S8x2048x8 .f32 := Host.exp main_v106
  let main_cst_29 : FVec F S_ .f32 := constant S_ .f32 0x00000000#32
  let main_v108 : FVec F S8x2048x8 .f32 := broadcastInDim S8x2048x8 ![] bcast_S_S8x2048x8 main_cst_29
  let main_c_30 : IVec S_ 32 := constantI S_ 32 0#32
  let main_v109 : IVec S8x1 32 := broadcastInDim S8x1 ![] bcast_S_S8x1 main_c_30
  let main_v110 : IVec S8x1 1 := cmpi .slt main_v33 main_v109
  fn_part6 (F := F) main_v24 main_v31 main_v33 main_v50 main_v107 main_v108 main_v110

def fn_part4 {F : FTy → Type} [FloatOps F] (main_arg0 : FVec F S8x2048x768 .f32) (main_arg2 : FVec F S768x768 .f32) (main_arg3 : FVec F S768x768 .f32) (main_arg5 : FVec F S768 .f32) (main_arg6 : FVec F S768 .f32) (main_v24 : IVec S_ 1) (main_v31 : IVec S8x2048 32) (main_v33 : IVec S8x1 32) (main_v50 : FVec F S8x2048 .f32) (main_v71 : FVec F S8x2048x768 .f32) : IVec S_ 1 :=
  let main_v72 : FVec F S768x768 .f32 := (transpose S768x768 [1, 0] · transposes_S768x768_S768x768_1_0) main_arg2
  let main_v73 : FVec F S8x2048x768 .f32 := (fun l r => Host.dotGeneral dot_S8x2048x768_S768x768_S8x2048x768_2_0_01_1_n_n none l r) main_v71 main_v72
  let main_v74 : FVec F S1x1x768 .f32 := broadcastInDim S1x1x768 ![2] bcast_S768_S1x1x768_2 main_arg5
  let main_v75 : FVec F S8x2048x768 .f32 := broadcastInDim S8x2048x768 ![0, 1, 2] bcast_S1x1x768_S8x2048x768_0_1_2 main_v74
  let main_v76 : FVec F S8x2048x768 .f32 := addf main_v73 main_v75
  let main_v77 : FVec F S8x2048x8x96 .f32 := shapeCast S8x2048x8x96 main_v76 shapeCasts_S8x2048x768_S8x2048x8x96
  let main_v78 : FVec F S768x768 .f32 := (transpose S768x768 [1, 0] · transposes_S768x768_S768x768_1_0) main_arg3
  let main_v79 : FVec F S8x2048x768 .f32 := (fun l r => Host.dotGeneral dot_S8x2048x768_S768x768_S8x2048x768_2_0_01_1_n_n none l r) main_arg0 main_v78
  let main_v80 : FVec F S1x1x768 .f32 := broadcastInDim S1x1x768 ![2] bcast_S768_S1x1x768_2 main_arg6
  let main_v81 : FVec F S8x2048x768 .f32 := broadcastInDim S8x2048x768 ![0, 1, 2] bcast_S1x1x768_S8x2048x768_0_1_2 main_v80
  let main_v82 : FVec F S8x2048x768 .f32 := addf main_v79 main_v81
  let main_v83 : FVec F S8x2048x8x96 .f32 := shapeCast S8x2048x8x96 main_v82 shapeCasts_S8x2048x768_S8x2048x8x96
  let main_c_22 : IVec S_ 32 := constantI S_ 32 0#32
  let main_v84 : IVec S8x1 32 := broadcastInDim S8x1 ![] bcast_S_S8x1 main_c_22
  let main_v85 : IVec S8x1 1 := cmpi .slt main_v33 main_v84
  let main_c_23 : IVec S_ 32 := constantI S_ 32 8#32
  let main_v86 : IVec S8x1 32 := broadcastInDim S8x1 ![] bcast_S_S8x1 main_c_23
  let main_v87 : IVec S8x1 32 := addi main_v33 main_v86
  let main_v88 : IVec S8x1 32 := select main_v85 main_v87 main_v33
  let main_c_24 : IVec S_ 32 := constantI S_ 32 0#32
  let main_v89 : IVec S8x2048 32 := broadcastInDim S8x2048 ![] bcast_S_S8x2048 main_c_24
  let main_v90 : IVec S8x2048 1 := cmpi .slt main_v31 main_v89
  let main_c_25 : IVec S_ 32 := constantI S_ 32 2048#32
  let main_v91 : IVec S8x2048 32 := broadcastInDim S8x2048 ![] bcast_S_S8x2048 main_c_25
  fn_part5 (F := F) main_v24 main_v31 main_v33 main_v50 main_v77 main_v83 main_v88 main_v90 main_v91

def fn_part3 {F : FTy → Type} [FloatOps F] (main_arg0 : FVec F S8x2048x768 .f32) (main_arg2 : FVec F S768x768 .f32) (main_arg3 : FVec F S768x768 .f32) (main_arg5 : FVec F S768 .f32) (main_arg6 : FVec F S768 .f32) (main_v24 : IVec S_ 1) (main_v31 : IVec S8x2048 32) (main_v33 : IVec S8x1 32) (main_v50 : FVec F S8x2048 .f32) (main_v51 : FVec F S8x2048x768 .f32) (main_c_17 : IVec S_ 32) : IVec S_ 1 :=
  let main_v52 : IVec S8x1 32 := broadcastInDim S8x1 ![] bcast_S_S8x1 main_c_17
  let main_v53 : IVec S8x1 1 := cmpi .slt main_v33 main_v52
  let main_c_18 : IVec S_ 32 := constantI S_ 32 8#32
  let main_v54 : IVec S8x1 32 := broadcastInDim S8x1 ![] bcast_S_S8x1 main_c_18
  let main_v55 : IVec S8x1 32 := addi main_v33 main_v54
  let main_v56 : IVec S8x1 32 := select main_v53 main_v55 main_v33
  let main_c_19 : IVec S_ 32 := constantI S_ 32 0#32
  let main_v57 : IVec S8x2048 32 := broadcastInDim S8x2048 ![] bcast_S_S8x2048 main_c_19
  let main_v58 : IVec S8x2048 1 := cmpi .slt main_v31 main_v57
  let main_c_20 : IVec S_ 32 := constantI S_ 32 2048#32
  let main_v59 : IVec S8x2048 32 := broadcastInDim S8x2048 ![] bcast_S_S8x2048 main_c_20
  let main_v60 : IVec S8x2048 32 := addi main_v31 main_v59
  let main_v61 : IVec S8x2048 32 := select main_v58 main_v60 main_v31
  let main_v62 : IVec S8x2048 32 := broadcastInDim S8x2048 ![0, 1] bcast_S8x1_S8x2048_0_1 main_v56
  let main_v63 : IVec S8x2048x1 32 := broadcastInDim S8x2048x1 ![0, 1] bcast_S8x2048_S8x2048x1_0_1 main_v62
  let main_v64 : IVec S8x2048x1 32 := broadcastInDim S8x2048x1 ![0, 1] bcast_S8x2048_S8x2048x1_0_1 main_v61
  let main_v65 : IVec S8x2048x2 32 := (fun a b => concatenate S8x2048x2 2 [⟨S8x2048x1, a⟩, ⟨S8x2048x1, b⟩] concatenates_S8x2048x1_S8x2048x1_S8x2048x2_d2) main_v63 main_v64
  let main_v66 : FVec F S8x2048x768 .f32 := (fun x i u => Host.scatterAdd scatter_S8x2048x768_S8x2048x2_S8x2048x768_2_01_01_2 x i u) main_v51 main_v65 main_arg0
  let main_cst_21 : FVec F S_ .f32 := constant S_ .f32 0x3F800000#32
  let main_v67 : FVec F S8x2048 .f32 := broadcastInDim S8x2048 ![] bcast_S_S8x2048 main_cst_21
  let main_v68 : FVec F S8x2048 .f32 := maximumf main_v50 main_v67
  let main_v69 : FVec F S8x2048x1 .f32 := broadcastInDim S8x2048x1 ![0, 1] bcast_S8x2048_S8x2048x1_0_1 main_v68
  let main_v70 : FVec F S8x2048x768 .f32 := broadcastInDim S8x2048x768 ![0, 1, 2] bcast_S8x2048x1_S8x2048x768_0_1_2 main_v69
  let main_v71 : FVec F S8x2048x768 .f32 := Host.divf main_v66 main_v70
  fn_part4 (F := F) main_arg0 main_arg2 main_arg3 main_arg5 main_arg6 main_v24 main_v31 main_v33 main_v50 main_v71

def fn_part2 {F : FTy → Type} [FloatOps F] (main_arg0 : FVec F S8x2048x768 .f32) (main_arg2 : FVec F S768x768 .f32) (main_arg3 : FVec F S768x768 .f32) (main_arg5 : FVec F S768 .f32) (main_arg6 : FVec F S768 .f32) (main_v24 : IVec S_ 1) (main_v31 : IVec S8x2048 32) (main_v33 : IVec S8x1 32) (main_v34 : FVec F S8x2048 .f32) : IVec S_ 1 :=
  let main_cst_11 : FVec F S_ .f32 := constant S_ .f32 0x00000000#32
  let main_v35 : FVec F S8x2048 .f32 := broadcastInDim S8x2048 ![] bcast_S_S8x2048 main_cst_11
  let main_c_12 : IVec S_ 32 := constantI S_ 32 0#32
  let main_v36 : IVec S8x1 32 := broadcastInDim S8x1 ![] bcast_S_S8x1 main_c_12
  let main_v37 : IVec S8x1 1 := cmpi .slt main_v33 main_v36
  let main_c_13 : IVec S_ 32 := constantI S_ 32 8#32
  let main_v38 : IVec S8x1 32 := broadcastInDim S8x1 ![] bcast_S_S8x1 main_c_13
  let main_v39 : IVec S8x1 32 := addi main_v33 main_v38
  let main_v40 : IVec S8x1 32 := select main_v37 main_v39 main_v33
  let main_c_14 : IVec S_ 32 := constantI S_ 32 0#32
  let main_v41 : IVec S8x2048 32 := broadcastInDim S8x2048 ![] bcast_S_S8x2048 main_c_14
  let main_v42 : IVec S8x2048 1 := cmpi .slt main_v31 main_v41
  let main_c_15 : IVec S_ 32 := constantI S_ 32 2048#32
  let main_v43 : IVec S8x2048 32 := broadcastInDim S8x2048 ![] bcast_S_S8x2048 main_c_15
  let main_v44 : IVec S8x2048 32 := addi main_v31 main_v43
  let main_v45 : IVec S8x2048 32 := select main_v42 main_v44 main_v31
  let main_v46 : IVec S8x2048 32 := broadcastInDim S8x2048 ![0, 1] bcast_S8x1_S8x2048_0_1 main_v40
  let main_v47 : IVec S8x2048x1 32 := broadcastInDim S8x2048x1 ![0, 1] bcast_S8x2048_S8x2048x1_0_1 main_v46
  let main_v48 : IVec S8x2048x1 32 := broadcastInDim S8x2048x1 ![0, 1] bcast_S8x2048_S8x2048x1_0_1 main_v45
  let main_v49 : IVec S8x2048x2 32 := (fun a b => concatenate S8x2048x2 2 [⟨S8x2048x1, a⟩, ⟨S8x2048x1, b⟩] concatenates_S8x2048x1_S8x2048x1_S8x2048x2_d2) main_v47 main_v48
  let main_v50 : FVec F S8x2048 .f32 := (fun x i u => Host.scatterAdd scatter_S8x2048_S8x2048x2_S8x2048_n_01_01_2 x i u) main_v35 main_v49 main_v34
  let main_cst_16 : FVec F S_ .f32 := constant S_ .f32 0x00000000#32
  let main_v51 : FVec F S8x2048x768 .f32 := broadcastInDim S8x2048x768 ![] bcast_S_S8x2048x768 main_cst_16
  let main_c_17 : IVec S_ 32 := constantI S_ 32 0#32
  fn_part3 (F := F) main_arg0 main_arg2 main_arg3 main_arg5 main_arg6 main_v24 main_v31 main_v33 main_v50 main_v51 main_c_17

def fn_part1 {F : FTy → Type} [FloatOps F] (main_arg0 : FVec F S8x2048x768 .f32) (main_arg1 : IVec S8x2048 32) (main_arg2 : FVec F S768x768 .f32) (main_arg3 : FVec F S768x768 .f32) (main_arg5 : FVec F S768 .f32) (main_arg6 : FVec F S768 .f32) (main_v14 : IVec S_ 1) (main_v15 : FVec F S768 .f32) (main_cst_5 : FVec F S_ .f32) : IVec S_ 1 :=
  let main_v16 : FVec F S768 .f32 := broadcastInDim S768 ![] bcast_S_S768 main_cst_5
  let main_v17 : IVec S768 1 := cmpf .olt main_v15 main_v16
  let main_c_6 : IVec S_ 1 := constantI S_ 1 1#1
  let main_v18 : IVec S_ 1 := (fun x v => Host.reduce IntOp.andi x v reducesTo_S768_S_d0 h_S_) main_v17 main_c_6
  let main_v19 : IVec S_ 1 := andi main_v14 main_v18
  let main_v20 : FVec F S768 .f32 := Host.absf main_arg6
  let main_cst_7 : FVec F S_ .f32 := constant S_ .f32 0x7F800000#32
  let main_v21 : FVec F S768 .f32 := broadcastInDim S768 ![] bcast_S_S768 main_cst_7
  let main_v22 : IVec S768 1 := cmpf .olt main_v20 main_v21
  let main_c_8 : IVec S_ 1 := constantI S_ 1 1#1
  let main_v23 : IVec S_ 1 := (fun x v => Host.reduce IntOp.andi x v reducesTo_S768_S_d0 h_S_) main_v22 main_c_8
  let main_v24 : IVec S_ 1 := andi main_v19 main_v23
  let main_c_9 : IVec S_ 32 := constantI S_ 32 0#32
  let main_v25 : IVec S8x2048 32 := broadcastInDim S8x2048 ![] bcast_S_S8x2048 main_c_9
  let main_v26 : IVec S8x2048 1 := cmpi .ne main_arg1 main_v25
  let main_v27 : IVec S8x2048 32 := (extui 32 · natLt_1_32) main_v26
  let main_v28 : IVec S8x2048 32 := fn_cumsum (F := F) main_v27
  let main_v29 : IVec S8x1 32 := (extractStridedSlice S8x1 ![0, 0] · slices_S8x2048_S8x1_0_0) main_v27
  let main_v30 : IVec S8x2048 32 := broadcastInDim S8x2048 ![0, 1] bcast_S8x1_S8x2048_0_1 main_v29
  let main_v31 : IVec S8x2048 32 := subi main_v28 main_v30
  let main_v32 : IVec S8 32 := iotaInDim S8 32 0
  let main_v33 : IVec S8x1 32 := broadcastInDim S8x1 ![0] bcast_S8_S8x1_0 main_v32
  let main_cst_10 : FVec F S_ .f32 := constant S_ .f32 0x3F800000#32
  let main_v34 : FVec F S8x2048 .f32 := broadcastInDim S8x2048 ![] bcast_S_S8x2048 main_cst_10
  fn_part2 (F := F) main_arg0 main_arg2 main_arg3 main_arg5 main_arg6 main_v24 main_v31 main_v33 main_v34

def fn {F : FTy → Type} [FloatOps F] (main_arg0 : FVec F S8x2048x768 .f32) (main_arg1 : IVec S8x2048 32) (main_arg2 : FVec F S768x768 .f32) (main_arg3 : FVec F S768x768 .f32) (main_arg4 : FVec F S768x768 .f32) (main_arg5 : FVec F S768 .f32) (main_arg6 : FVec F S768 .f32) (main_arg7 : FVec F S768 .f32) (main_arg8 : FVec F S768x768 .f32) (main_arg9 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_c_0 : IVec S_ 1 := constantI S_ 1 1#1
  let main_v4 : IVec S_ 1 := andi main_c_0 main_v3
  let main_v5 : FVec F S768x768 .f32 := Host.absf main_arg2
  let main_cst_1 : FVec F S_ .f32 := constant S_ .f32 0x7F800000#32
  let main_v6 : FVec F S768x768 .f32 := broadcastInDim S768x768 ![] bcast_S_S768x768 main_cst_1
  let main_v7 : IVec S768x768 1 := cmpf .olt main_v5 main_v6
  let main_c_2 : IVec S_ 1 := constantI S_ 1 1#1
  let main_v8 : IVec S_ 1 := (fun x v => Host.reduce IntOp.andi x v reducesTo_S768x768_S_d0_1 h_S_) main_v7 main_c_2
  let main_v9 : IVec S_ 1 := andi main_v4 main_v8
  let main_v10 : FVec F S768x768 .f32 := Host.absf main_arg3
  let main_cst_3 : FVec F S_ .f32 := constant S_ .f32 0x7F800000#32
  let main_v11 : FVec F S768x768 .f32 := broadcastInDim S768x768 ![] bcast_S_S768x768 main_cst_3
  let main_v12 : IVec S768x768 1 := cmpf .olt main_v10 main_v11
  let main_c_4 : IVec S_ 1 := constantI S_ 1 1#1
  let main_v13 : IVec S_ 1 := (fun x v => Host.reduce IntOp.andi x v reducesTo_S768x768_S_d0_1 h_S_) main_v12 main_c_4
  let main_v14 : IVec S_ 1 := andi main_v9 main_v13
  let main_v15 : FVec F S768 .f32 := Host.absf main_arg5
  let main_cst_5 : FVec F S_ .f32 := constant S_ .f32 0x7F800000#32
  fn_part1 (F := F) main_arg0 main_arg1 main_arg2 main_arg3 main_arg5 main_arg6 main_v14 main_v15 main_cst_5
-- ==== Kernel.lean ====
abbrev S8x2048x768 : Shape := ⟨3, ![8, 2048, 768]⟩
abbrev S8x2048 : Shape := ⟨2, ![8, 2048]⟩
abbrev S768x768 : Shape := ⟨2, ![768, 768]⟩
abbrev S768 : Shape := ⟨1, ![768]⟩
abbrev S8x1x2048 : Shape := ⟨3, ![8, 1, 2048]⟩
abbrev S1x768 : Shape := ⟨2, ![1, 768]⟩
abbrev S1x2048x768 : Shape := ⟨3, ![1, 2048, 768]⟩
abbrev S2048x256 : Shape := ⟨2, ![2048, 256]⟩
abbrev S8x256 : Shape := ⟨2, ![8, 256]⟩
abbrev S8x1 : Shape := ⟨2, ![8, 1]⟩
abbrev S2048x768 : Shape := ⟨2, ![2048, 768]⟩
abbrev S1x2048 : Shape := ⟨2, ![1, 2048]⟩
abbrev S2048x1 : Shape := ⟨2, ![2048, 1]⟩
abbrev S1x1 : Shape := ⟨2, ![1, 1]⟩
abbrev S768x8 : Shape := ⟨2, ![768, 8]⟩
abbrev S2048x769 : Shape := ⟨2, ![2048, 769]⟩
abbrev S256x1 : Shape := ⟨2, ![256, 1]⟩
abbrev S256x2048 : Shape := ⟨2, ![256, 2048]⟩
abbrev S256x769 : Shape := ⟨2, ![256, 769]⟩
abbrev S256x768 : Shape := ⟨2, ![256, 768]⟩
abbrev S256x8 : Shape := ⟨2, ![256, 8]⟩
abbrev S2048x8 : Shape := ⟨2, ![2048, 8]⟩
abbrev S8 : Shape := ⟨1, ![8]⟩
abbrev S1x8 : Shape := ⟨2, ![1, 8]⟩
abbrev S8x768 : Shape := ⟨2, ![8, 768]⟩
abbrev S1x256x768 : Shape := ⟨3, ![1, 256, 768]⟩
abbrev S256x1792 : Shape := ⟨2, ![256, 1792]⟩
abbrev S1x1792 : Shape := ⟨2, ![1, 1792]⟩
abbrev S1792x768 : Shape := ⟨2, ![1792, 768]⟩
abbrev S256x1536 : Shape := ⟨2, ![256, 1536]⟩
abbrev S1x1536 : Shape := ⟨2, ![1, 1536]⟩
abbrev S1536x768 : Shape := ⟨2, ![1536, 768]⟩
abbrev S256x1280 : Shape := ⟨2, ![256, 1280]⟩
abbrev S1x1280 : Shape := ⟨2, ![1, 1280]⟩
abbrev S1280x768 : Shape := ⟨2, ![1280, 768]⟩
abbrev S256x1024 : Shape := ⟨2, ![256, 1024]⟩
abbrev S1x1024 : Shape := ⟨2, ![1, 1024]⟩
abbrev S1024x768 : Shape := ⟨2, ![1024, 768]⟩
abbrev S256x512 : Shape := ⟨2, ![256, 512]⟩
abbrev S1x512 : Shape := ⟨2, ![1, 512]⟩
abbrev S512x768 : Shape := ⟨2, ![512, 768]⟩
abbrev S256x256 : Shape := ⟨2, ![256, 256]⟩
abbrev S1x256 : Shape := ⟨2, ![1, 256]⟩

abbrev nBuf : Space → Nat
  | .hbm => 25
  | .vmem => 14
  | .smem => 0
  | _ => 0

abbrev bufTy : (tb : Table) → Fin (tcTables nBuf tb) → BufTy
  | .hbm, ⟨0, _⟩ => ⟨S8x2048x768, .f32⟩
  | .hbm, ⟨1, _⟩ => ⟨S8x2048, .i32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768x768, .f32⟩
  | .hbm, ⟨9, _⟩ => ⟨S768, .f32⟩
  | .hbm, ⟨10, _⟩ => ⟨S8x1x2048, .i32⟩
  | .hbm, ⟨11, _⟩ => ⟨S8x2048x768, .bf16⟩
  | .hbm, ⟨12, _⟩ => ⟨S768x768, .f32⟩
  | .hbm, ⟨13, _⟩ => ⟨S768x768, .bf16⟩
  | .hbm, ⟨14, _⟩ => ⟨S768x768, .f32⟩
  | .hbm, ⟨15, _⟩ => ⟨S768x768, .bf16⟩
  | .hbm, ⟨16, _⟩ => ⟨S768x768, .f32⟩
  | .hbm, ⟨17, _⟩ => ⟨S768x768, .bf16⟩
  | .hbm, ⟨18, _⟩ => ⟨S768x768, .f32⟩
  | .hbm, ⟨19, _⟩ => ⟨S768x768, .bf16⟩
  | .hbm, ⟨20, _⟩ => ⟨S1x768, .f32⟩
  | .hbm, ⟨21, _⟩ => ⟨S1x768, .f32⟩
  | .hbm, ⟨22, _⟩ => ⟨S1x768, .f32⟩
  | .hbm, ⟨23, _⟩ => ⟨S1x768, .f32⟩
  | .hbm, ⟨24, _⟩ => ⟨S8x2048x768, .f32⟩
  | .local _ .vmem, ⟨0, _⟩ => ⟨S1x2048x768, .bf16⟩
  | .local _ .vmem, ⟨1, _⟩ => ⟨S1x2048x768, .bf16⟩
  | .local _ .vmem, ⟨2, _⟩ => ⟨S8x1x2048, .i32⟩
  | .local _ .vmem, ⟨3, _⟩ => ⟨S768x768, .bf16⟩
  | .local _ .vmem, ⟨4, _⟩ => ⟨S768x768, .bf16⟩
  | .local _ .vmem, ⟨5, _⟩ => ⟨S768x768, .bf16⟩
  | .local _ .vmem, ⟨6, _⟩ => ⟨S768x768, .bf16⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S1x2048x768, .f32⟩
  | .local _ .vmem, ⟨12, _⟩ => ⟨S1x2048x768, .f32⟩
  | .local _ .vmem, ⟨13, _⟩ => ⟨S8x2048, .i32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v5 : Index := Scalar.indexCast arg0
  let c0_3 : Index := 0#32
  ![v5.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x2048x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x2048x768 : Shape := ⟨3, ![8, 2048, 768]⟩
abbrev S8x2048 : Shape := ⟨2, ![8, 2048]⟩
abbrev S768x768 : Shape := ⟨2, ![768, 768]⟩
abbrev S768 : Shape := ⟨1, ![768]⟩
abbrev S_ : Shape := ⟨0, ![]⟩
abbrev S8x1 : Shape := ⟨2, ![8, 1]⟩
abbrev S8 : Shape := ⟨1, ![8]⟩
abbrev S8x2048x1 : Shape := ⟨3, ![8, 2048, 1]⟩
abbrev S8x2048x2 : Shape := ⟨3, ![8, 2048, 2]⟩
abbrev S1x1x768 : Shape := ⟨3, ![1, 1, 768]⟩
abbrev S8x2048x8x96 : Shape := ⟨4, ![8, 2048, 8, 96]⟩
abbrev S8x2048x8 : Shape := ⟨3, ![8, 2048, 8]⟩
abbrev S8x1x2048 : Shape := ⟨3, ![8, 1, 2048]⟩
abbrev S2048 : Shape := ⟨1, ![2048]⟩
abbrev S1x2048x1 : Shape := ⟨3, ![1, 2048, 1]⟩
abbrev S8x2048x2048 : Shape := ⟨3, ![8, 2048, 2048]⟩
abbrev S8x2048x2048x1 : Shape := ⟨4, ![8, 2048, 2048, 1]⟩
abbrev S8x1x2048x8 : Shape := ⟨4, ![8, 1, 2048, 8]⟩
abbrev S8x2048x2048x8 : Shape := ⟨4, ![8, 2048, 2048, 8]⟩
abbrev S8x2048x8x1 : Shape := ⟨4, ![8, 2048, 8, 1]⟩

abbrev nBuf : Space → Nat
  | .hbm => 227
  | .vmem => 0
  | .smem => 0
  | _ => 0

abbrev hbmTy0_0 (i : Nat) : BufTy := match i % 128 with
  | 0 => ⟨S8x2048x768, .f32⟩
  | 1 => ⟨S8x2048, .i32⟩
  | 2 => ⟨S768x768, .f32⟩
  | 3 => ⟨S768x768, .f32⟩
  | 4 => ⟨S768x768, .f32⟩
  | 5 => ⟨S768, .f32⟩
  | 6 => ⟨S768, .f32⟩
  | 7 => ⟨S768, .f32⟩
  | 8 => ⟨S768x768, .f32⟩
  | 9 => ⟨S768, .f32⟩
  | 10 => ⟨S_, .i32⟩
  | 11 => ⟨S8x2048, .i32⟩
  | 12 => ⟨S8x2048, .i1⟩
  | 13 => ⟨S8x2048, .i32⟩
  | 14 => ⟨S_, .i32⟩
  | 15 => ⟨S_, .i32⟩
  | 16 => ⟨S8x2048, .i32⟩
  | 17 => ⟨S8x1, .i32⟩
  | 18 => ⟨S8x2048, .i32⟩
  | 19 => ⟨S8x2048, .i32⟩
  | 20 => ⟨S8, .i32⟩
  | 21 => ⟨S8x1, .i32⟩
  | 22 => ⟨S_, .f32⟩
  | 23 => ⟨S8x2048, .f32⟩
  | 24 => ⟨S_, .f32⟩
  | 25 => ⟨S8x2048, .f32⟩
  | 26 => ⟨S_, .i32⟩
  | 27 => ⟨S8x1, .i32⟩
  | 28 => ⟨S8x1, .i1⟩
  | 29 => ⟨S_, .i32⟩
  | 30 => ⟨S8x1, .i32⟩
  | 31 => ⟨S8x1, .i32⟩
  | 32 => ⟨S8x1, .i32⟩
  | 33 => ⟨S_, .i32⟩
  | 34 => ⟨S8x2048, .i32⟩
  | 35 => ⟨S8x2048, .i1⟩
  | 36 => ⟨S_, .i32⟩
  | 37 => ⟨S8x2048, .i32⟩
  | 38 => ⟨S8x2048, .i32⟩
  | 39 => ⟨S8x2048, .i32⟩
  | 40 => ⟨S8x2048, .i32⟩
  | 41 => ⟨S8x2048x1, .i32⟩
  | 42 => ⟨S8x2048x1, .i32⟩
  | 43 => ⟨S8x2048x2, .i32⟩
  | 44 => ⟨S8x2048, .f32⟩
  | 45 => ⟨S_, .f32⟩
  | 46 => ⟨S8x2048x768, .f32⟩
  | 47 => ⟨S_, .i32⟩
  | 48 => ⟨S8x1, .i32⟩
  | 49 => ⟨S8x1, .i1⟩
  | 50 => ⟨S_, .i32⟩
  | 51 => ⟨S8x1, .i32⟩
  | 52 => ⟨S8x1, .i32⟩
  | 53 => ⟨S8x1, .i32⟩
  | 54 => ⟨S_, .i32⟩
  | 55 => ⟨S8x2048, .i32⟩
  | 56 => ⟨S8x2048, .i1⟩
  | 57 => ⟨S_, .i32⟩
  | 58 => ⟨S8x2048, .i32⟩
  | 59 => ⟨S8x2048, .i32⟩
  | 60 => ⟨S8x2048, .i32⟩
  | 61 => ⟨S8x2048, .i32⟩
  | 62 => ⟨S8x2048x1, .i32⟩
  | 63 => ⟨S8x2048x1, .i32⟩
  | 64 => ⟨S8x2048x2, .i32⟩
  | 65 => ⟨S8x2048x768, .f32⟩
  | 66 => ⟨S_, .f32⟩
  | 67 => ⟨S8x2048, .f32⟩
  | 68 => ⟨S8x2048, .f32⟩
  | 69 => ⟨S8x2048x1, .f32⟩
  | 70 => ⟨S8x2048x768, .f32⟩
  | 71 => ⟨S8x2048x768, .f32⟩
  | 72 => ⟨S768x768, .f32⟩
  | 73 => ⟨S8x2048x768, .f32⟩
  | 74 => ⟨S1x1x768, .f32⟩
  | 75 => ⟨S8x2048x768, .f32⟩
  | 76 => ⟨S8x2048x768, .f32⟩
  | 77 => ⟨S768x768, .f32⟩
  | 78 => ⟨S8x2048x768, .f32⟩
  | 79 => ⟨S1x1x768, .f32⟩
  | 80 => ⟨S8x2048x768, .f32⟩
  | 81 => ⟨S8x2048x768, .f32⟩
  | 82 => ⟨S768x768, .f32⟩
  | 83 => ⟨S8x2048x768, .f32⟩
  | 84 => ⟨S1x1x768, .f32⟩
  | 85 => ⟨S8x2048x768, .f32⟩
  | 86 => ⟨S8x2048x768, .f32⟩
  | 87 => ⟨S8x2048x8x96, .f32⟩
  | 88 => ⟨S8x2048x8x96, .f32⟩
  | 89 => ⟨S8x2048x8x96, .f32⟩
  | 90 => ⟨S_, .i32⟩
  | 91 => ⟨S8x1, .i32⟩
  | 92 => ⟨S8x1, .i1⟩
  | 93 => ⟨S_, .i32⟩
  | 94 => ⟨S8x1, .i32⟩
  | 95 => ⟨S8x1, .i32⟩
  | 96 => ⟨S8x1, .i32⟩
  | 97 => ⟨S_, .i32⟩
  | 98 => ⟨S8x2048, .i32⟩
  | 99 => ⟨S8x2048, .i1⟩
  | 100 => ⟨S_, .i32⟩
  | 101 => ⟨S8x2048, .i32⟩
  | 102 => ⟨S8x2048, .i32⟩
  | 103 => ⟨S8x2048, .i32⟩
  | 104 => ⟨S8x2048, .i32⟩
  | 105 => ⟨S8x2048x1, .i32⟩
  | 106 => ⟨S8x2048x1, .i32⟩
  | 107 => ⟨S8x2048x2, .i32⟩
  | 108 => ⟨S8x2048x8x96, .f32⟩
  | 109 => ⟨S8x2048x8x96, .f32⟩
  | 110 => ⟨S_, .f32⟩
  | 111 => ⟨S8x2048x8, .f32⟩
  | 112 => ⟨S_, .f32⟩
  | 113 => ⟨S8x2048x8, .f32⟩
  | 114 => ⟨S8x2048x8, .f32⟩
  | 115 => ⟨S8x1x2048, .i32⟩
  | 116 => ⟨S2048, .i32⟩
  | 117 => ⟨S1x2048x1, .i32⟩
  | 118 => ⟨S8x2048x2048, .i32⟩
  | 119 => ⟨S8x2048x2048, .i32⟩
  | 120 => ⟨S8x2048x2048, .i1⟩
  | 121 => ⟨S8x2048x2048x1, .i1⟩
  | 122 => ⟨S8x1x2048x8, .f32⟩
  | 123 => ⟨S_, .f32⟩
  | 124 => ⟨S_, .f32⟩
  | 125 => ⟨S8x2048x2048x8, .i1⟩
  | 126 => ⟨S8x2048x2048x8, .f32⟩
  | 127 => ⟨S8x2048x2048x8, .f32⟩
  | _ => ⟨S8x2048x768, .f32⟩

abbrev hbmTy0_1 (i : Nat) : BufTy := match i % 128 with
  | 0 => ⟨S8x2048x2048x8, .f32⟩
  | 1 => ⟨S_, .f32⟩
  | 2 => ⟨S8x2048x8, .f32⟩
  | 3 => ⟨S8x2048x1, .f32⟩
  | 4 => ⟨S_, .f32⟩
  | 5 => ⟨S8x2048x1, .f32⟩
  | 6 => ⟨S8x2048x1, .i1⟩
  | 7 => ⟨S_, .f32⟩
  | 8 => ⟨S_, .f32⟩
  | 9 => ⟨S8x2048x8, .i1⟩
  | 10 => ⟨S8x2048x8, .f32⟩
  | 11 => ⟨S8x2048x8, .f32⟩
  | 12 => ⟨S_, .i32⟩
  | 13 => ⟨S8x1, .i32⟩
  | 14 => ⟨S8x1, .i1⟩
  | 15 => ⟨S_, .i32⟩
  | 16 => ⟨S8x1, .i32⟩
  | 17 => ⟨S8x1, .i32⟩
  | 18 => ⟨S8x1, .i32⟩
  | 19 => ⟨S_, .i32⟩
  | 20 => ⟨S8x2048, .i32⟩
  | 21 => ⟨S8x2048, .i1⟩
  | 22 => ⟨S_, .i32⟩
  | 23 => ⟨S8x2048, .i32⟩
  | 24 => ⟨S8x2048, .i32⟩
  | 25 => ⟨S8x2048, .i32⟩
  | 26 => ⟨S8x2048, .i32⟩
  | 27 => ⟨S8x2048x1, .i32⟩
  | 28 => ⟨S8x2048x1, .i32⟩
  | 29 => ⟨S8x2048x2, .i32⟩
  | 30 => ⟨S8x2048x8, .f32⟩
  | 31 => ⟨S8x2048x8, .f32⟩
  | 32 => ⟨S8x2048x8, .f32⟩
  | 33 => ⟨S_, .f32⟩
  | 34 => ⟨S8x2048x8, .f32⟩
  | 35 => ⟨S_, .i32⟩
  | 36 => ⟨S8x1, .i32⟩
  | 37 => ⟨S8x1, .i1⟩
  | 38 => ⟨S_, .i32⟩
  | 39 => ⟨S8x1, .i32⟩
  | 40 => ⟨S8x1, .i32⟩
  | 41 => ⟨S8x1, .i32⟩
  | 42 => ⟨S_, .i32⟩
  | 43 => ⟨S8x2048, .i32⟩
  | 44 => ⟨S8x2048, .i1⟩
  | 45 => ⟨S_, .i32⟩
  | 46 => ⟨S8x2048, .i32⟩
  | 47 => ⟨S8x2048, .i32⟩
  | 48 => ⟨S8x2048, .i32⟩
  | 49 => ⟨S8x2048, .i32⟩
  | 50 => ⟨S8x2048x1, .i32⟩
  | 51 => ⟨S8x2048x1, .i32⟩
  | 52 => ⟨S8x2048x2, .i32⟩
  | 53 => ⟨S8x2048x8, .f32⟩
  | 54 => ⟨S8x2048x8x1, .f32⟩
  | 55 => ⟨S8x2048x8x96, .f32⟩
  | 56 => ⟨S8x2048x8x96, .f32⟩
  | 57 => ⟨S_, .f32⟩
  | 58 => ⟨S8x2048x8x96, .f32⟩
  | 59 => ⟨S_, .i32⟩
  | 60 => ⟨S8x1, .i32⟩
  | 61 => ⟨S8x1, .i1⟩
  | 62 => ⟨S_, .i32⟩
  | 63 => ⟨S8x1, .i32⟩
  | 64 => ⟨S8x1, .i32⟩
  | 65 => ⟨S8x1, .i32⟩
  | 66 => ⟨S_, .i32⟩
  | 67 => ⟨S8x2048, .i32⟩
  | 68 => ⟨S8x2048, .i1⟩
  | 69 => ⟨S_, .i32⟩
  | 70 => ⟨S8x2048, .i32⟩
  | 71 => ⟨S8x2048, .i32⟩
  | 72 => ⟨S8x2048, .i32⟩
  | 73 => ⟨S8x2048, .i32⟩
  | 74 => ⟨S8x2048x1, .i32⟩
  | 75 => ⟨S8x2048x1, .i32⟩
  | 76 => ⟨S8x2048x2, .i32⟩
  | 77 => ⟨S8x2048x8x96, .f32⟩
  | 78 => ⟨S_, .f32⟩
  | 79 => ⟨S8x2048x8, .f32⟩
  | 80 => ⟨S8x2048x8, .f32⟩
  | 81 => ⟨S8x2048x8x1, .f32⟩
  | 82 => ⟨S8x2048x8x96, .f32⟩
  | 83 => ⟨S8x2048x8x96, .f32⟩
  | 84 => ⟨S8x2048x768, .f32⟩
  | 85 => ⟨S768x768, .f32⟩
  | 86 => ⟨S8x2048x768, .f32⟩
  | 87 => ⟨S1x1x768, .f32⟩
  | 88 => ⟨S8x2048x768, .f32⟩
  | 89 => ⟨S8x2048x768, .f32⟩
  | 90 => ⟨S8x2048x1, .f32⟩
  | 91 => ⟨S_, .f32⟩
  | 92 => ⟨S8x2048x1, .f32⟩
  | 93 => ⟨S8x2048x1, .i1⟩
  | 94 => ⟨S_, .f32⟩
  | 95 => ⟨S_, .f32⟩
  | 96 => ⟨S8x2048x768, .i1⟩
  | 97 => ⟨S8x2048x768, .f32⟩
  | 98 => ⟨S8x2048x768, .f32⟩
  | _ => ⟨S8x2048x768, .f32⟩

abbrev hbmTy (i : Nat) : BufTy := match i / 128 with
  | 0 => hbmTy0_0 i
  | 1 => hbmTy0_1 i
  | _ => ⟨S8x2048x768, .f32⟩

abbrev bufTy : (tb : Table) → Fin (tcTables nBuf tb) → BufTy
  | .hbm, ⟨i, _⟩ => hbmTy i
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_call0_c : Ref sig .tc := ⟨.hbm, 14, rfl⟩
abbrev main_call0_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_c_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_11 : Ref sig .tc := ⟨.hbm, 90, rfl⟩
abbrev main_v65 : Ref sig .tc := ⟨.hbm, 91, rfl⟩
abbrev main_v66 : Ref sig .tc := ⟨.hbm, 92, rfl⟩
abbrev main_c_12 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_15 : Ref sig .tc := ⟨.hbm, 110, rfl⟩
abbrev main_v81 : Ref sig .tc := ⟨.hbm, 111, rfl⟩
abbrev main_cst_16 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_17 : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_call1_v3 : Ref sig .tc := ⟨.hbm, 127, rfl⟩
abbrev main_v92 : Ref sig .tc := ⟨.hbm, 128, rfl⟩
abbrev main_cst_18 : Ref sig .tc := ⟨.hbm, 129, rfl⟩
abbrev main_v93 : Ref sig .tc := ⟨.hbm, 130, rfl⟩
abbrev main_v94 : Ref sig .tc := ⟨.hbm, 131, rfl⟩
abbrev main_cst_19 : Ref sig .tc := ⟨.hbm, 132, rfl⟩
abbrev main_v95 : Ref sig .tc := ⟨.hbm, 133, rfl⟩
abbrev main_v96 : Ref sig .tc := ⟨.hbm, 134, rfl⟩
abbrev main_cst_20 : Ref sig .tc := ⟨.hbm, 135, rfl⟩
abbrev main_call2_v0 : Ref sig .tc := ⟨.hbm, 136, rfl⟩
abbrev main_call2_v1 : Ref sig .tc := ⟨.hbm, 137, rfl⟩
abbrev main_call2_v2 : Ref sig .tc := ⟨.hbm, 138, rfl⟩
abbrev main_v97 : Ref sig .tc := ⟨.hbm, 139, rfl⟩
abbrev main_c_21 : Ref sig .tc := ⟨.hbm, 140, rfl⟩
abbrev main_v98 : Ref sig .tc := ⟨.hbm, 141, rfl⟩
abbrev main_v99 : Ref sig .tc := ⟨.hbm, 142, rfl⟩
abbrev main_c_22 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_c_23 : Ref sig .tc := ⟨.hbm, 147, rfl⟩
abbrev main_v103 : Ref sig .tc := ⟨.hbm, 148, rfl⟩
abbrev main_v104 : Ref sig .tc := ⟨.hbm, 149, rfl⟩
abbrev main_c_24 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_25 : Ref sig .tc := ⟨.hbm, 161, rfl⟩
abbrev main_v115 : Ref sig .tc := ⟨.hbm, 162, rfl⟩
abbrev main_c_26 : Ref sig .tc := ⟨.hbm, 163, rfl⟩
abbrev main_v116 : Ref sig .tc := ⟨.hbm, 164, rfl⟩
abbrev main_v117 : Ref sig .tc := ⟨.hbm, 165, rfl⟩
abbrev main_c_27 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_c_28 : Ref sig .tc := ⟨.hbm, 170, rfl⟩
abbrev main_v121 : Ref sig .tc := ⟨.hbm, 171, rfl⟩
abbrev main_v122 : Ref sig .tc := ⟨.hbm, 172, rfl⟩
abbrev main_c_29 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_30 : Ref sig .tc := ⟨.hbm, 185, rfl⟩
abbrev main_v134 : Ref sig .tc := ⟨.hbm, 186, rfl⟩
abbrev main_c_31 : Ref sig .tc := ⟨.hbm, 187, rfl⟩
abbrev main_v135 : Ref sig .tc := ⟨.hbm, 188, rfl⟩
abbrev main_v136 : Ref sig .tc := ⟨.hbm, 189, rfl⟩
abbrev main_c_32 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_c_33 : Ref sig .tc := ⟨.hbm, 194, rfl⟩
abbrev main_v140 : Ref sig .tc := ⟨.hbm, 195, rfl⟩
abbrev main_v141 : Ref sig .tc := ⟨.hbm, 196, rfl⟩
abbrev main_c_34 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_cst_35 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_cst_36 : Ref sig .tc := ⟨.hbm, 219, rfl⟩
abbrev main_v162 : Ref sig .tc := ⟨.hbm, 220, rfl⟩
abbrev main_v163 : Ref sig .tc := ⟨.hbm, 221, rfl⟩
abbrev main_cst_37 : Ref sig .tc := ⟨.hbm, 222, rfl⟩
abbrev main_call3_v0 : Ref sig .tc := ⟨.hbm, 223, rfl⟩
abbrev main_call3_v1 : Ref sig .tc := ⟨.hbm, 224, rfl⟩
abbrev main_call3_v2 : Ref sig .tc := ⟨.hbm, 225, rfl⟩
abbrev main_v164 : Ref sig .tc := ⟨.hbm, 226, rfl⟩

abbrev nD : Nat := 1
abbrev τ : Topo := Topo.v7x

variable {F : FTy → Type} [FloatOps F]
-- ==== Proof.KernelBody.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (i : grid0.Coords) (arg1 : Memref sig .tc .vmem S1x2048x768 .bf16) (harg1 : arg1.IsWhole) (arg2 : Memref sig .tc .vmem S8x1x2048 .i32) (harg2 : arg2.IsWhole) (arg3 : Memref sig .tc .vmem S768x768 .bf16) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x2048x768 .f32) (harg11 : arg11.IsWhole) (arg12 : Memref sig .tc .vmem S8x2048 .i32) (harg12 : arg12.IsWhole)
variable (x0 : Vec F S1x2048x768 .bf16) (x1 : Vec F S8x1x2048 .i32) (x2 : Vec F S768x768 .bf16) (x3 : Vec F S768x768 .bf16) (x4 : Vec F S768x768 .bf16) (x5 : Vec F S768x768 .bf16) (x6 : Vec F S1x768 .f32) (x7 : Vec F S1x768 .f32) (x8 : Vec F S1x768 .f32) (x9 : Vec F S1x768 .f32)

/-- The end of the body from the last eighth of the values on: the remaining arithmetic, then for each of the eight
    tiles of segments the two stores of which the number of tiles in use chooses one. -/
noncomputable def tailProg (v4 : FVec F S2048x768 .bf16) (v6 : Vec F S1x2048 .i32) (v9 : BitVec 32) (v27 : BitVec 32) (v57 : FVec F S768x8 .bf16) (v309 : FVec F S2048x8 .f32) (v310 : FVec F S2048x8 .bf16) (v336 : FVec F S256x768 .bf16) (v362 : FVec F S256x768 .bf16) (v388 : FVec F S256x768 .bf16) (v414 : FVec F S256x768 .bf16) (v440 : FVec F S256x768 .bf16) (v466 : FVec F S256x768 .bf16) (v492 : FVec F S256x768 .bf16) (v493 : IVec S256x1 32) (v495 : IVec S256x2048 32) :
    Prog (TpuEff nD τ sig (Elt F) Λ₀ .tc) PUnit := do
  let ⟨v519, v520, v534⟩ : Σ' (v519 : FVec F S2048x768 .bf16) (v520 : IVec S256x1 32), BitVec 32 ← k0_part13 i arg1 harg1 arg2 harg2 arg3 harg3 arg4 harg4 arg5 harg5 arg6 harg6 arg7 harg7 arg8 harg8 arg9 harg9 arg10 harg10 arg11 harg11 arg12 harg12 v4 v6 v9 v27 v57 v309 v310 v336 v362 v388 v414 v440 v466 v492 v493 v495
  let v564 : BitVec 32 ← k0_part14 i arg1 harg1 arg2 harg2 arg3 harg3 arg4 harg4 arg5 harg5 arg6 harg6 arg7 harg7 arg8 harg8 arg9 harg9 arg10 harg10 arg11 harg11 arg12 harg12 v6 v9 v27 v519 v520 v534
  let v565 : BitVec 1 := Scalar.cmpi .ne v564 0#32
  if v565 = 1#1 then do
    let v582 : Vec F S768x768 .bf16 ← Prog.lift (.load arg6 (Rect.unit (s := S768x768) ![0, 0] S768x768.size inb_S768x768_S768x768_0_0).toLoadRect (View.loadsAt_vmem h_S768x768))
    let v585 : Vec F S1x768 .f32 ← Prog.lift (.load arg10 (Rect.unit (s := S1x768) ![0, 0] S1x768.size inb_S1x768_S1x768_0_0).toLoadRect (View.loadsAt_vmem h_S1x768))
    let v597 : Vec F S1x256x768 .f32 ← Prog.lift (.load arg11 (Rect.unit (s := S1x2048x768) ![0, 1792, 0] S1x256x768.size inb_S1x2048x768_S1x256x768_0_1792_0).toLoadRect (View.loadsAt_vmem h_S1x256x768))
    Prog.lift (.store arg11 (Rect.unit (s := S1x2048x768) ![0, 1792, 0] S1x256x768.size inb_S1x2048x768_S1x256x768_0_1792_0) (k0_pay1 v6 v9 v519 v520 v582 v585) Finset.univ (View.stores_vmem_bits_univ h_S1x256x768 rfl) (.inl rfl))
    pure ⟨⟩
  else do
    pure ⟨⟩
  let v566 : BitVec 1 := Scalar.cmpi .sle v27 7#32
  let v567 : BitVec 32 := Scalar.extui v566
  let v568 : BitVec 1 := Scalar.cmpi .ne v567 0#32
  if v568 = 1#1 then do
    let v570 : Vec F S1x256x768 .f32 ← Prog.lift (.load arg11 (Rect.unit (s := S1x2048x768) ![0, 1792, 0] S1x256x768.size inb_S1x2048x768_S1x256x768_0_1792_0).toLoadRect (View.loadsAt_vmem h_S1x256x768))
    Prog.lift (.store arg11 (Rect.unit (s := S1x2048x768) ![0, 1792, 0] S1x256x768.size inb_S1x2048x768_S1x256x768_0_1792_0) (k0_pay2 (F := F)) Finset.univ (View.stores_vmem_bits_univ h_S1x256x768 rfl) (.inl rfl))
    pure ⟨⟩
  else do
    pure ⟨⟩
  pure ⟨⟩

/-- The middle of the body: the row's segment numbers and everything up to the seventh eighth of the values, with the
    rest of the body as the continuation `k`. -/
noncomputable def midProg
    (k : FVec F S2048x768 .bf16 → Vec F S1x2048 .i32 → BitVec 32 → BitVec 32 → FVec F S768x8 .bf16 → FVec F S2048x8 .f32 → FVec F S2048x8 .bf16 → FVec F S256x768 .bf16 → FVec F S256x768 .bf16 → FVec F S256x768 .bf16 → FVec F S256x768 .bf16 → FVec F S256x768 .bf16 → FVec F S256x768 .bf16 → FVec F S256x768 .bf16 → IVec S256x1 32 → IVec S256x2048 32 → Prog (TpuEff nD τ sig (Elt F) Λ₀ .tc) PUnit) :
    Prog (TpuEff nD τ sig (Elt F) Λ₀ .tc) PUnit := do
  let v3 : Vec F S1x2048x768 .bf16 ← Prog.lift (.load arg1 (Rect.unit (s := S1x2048x768) ![0, 0, 0] S1x2048x768.size inb_S1x2048x768_S1x2048x768_0_0_0).toLoadRect (View.loadsAt_vmem h_S1x2048x768))
  let v6 : Vec F S1x2048 .i32 ← Prog.lift (.load arg12 (Rect.unit (s := S8x2048) (k0_off1 i) S1x2048.size (k0_off1_inb i)).toLoadRect (View.loadsAt_vmem h_S1x2048))
  let v9 : BitVec 32 := extractAt ![0, 0] (k0_pay12 v6) inpos_S1x1_p0_0
  let v10 : BitVec 32 := Scalar.divsi v9 256#32
  let v11 : BitVec 1 := Scalar.cmpi .sgt v9 0#32
  let v12 : BitVec 32 := Scalar.extui v11
  let v13 : BitVec 1 := Scalar.cmpi .slt v9 0#32
  let v14 : BitVec 32 := Scalar.extui v13
  let v15 : BitVec 32 := Scalar.subi v12 v14
  let v16 : BitVec 1 := Scalar.cmpi .sgt 256#32 0#32
  let v17 : BitVec 32 := Scalar.extui v16
  let v18 : BitVec 1 := Scalar.cmpi .slt 256#32 0#32
  let v19 : BitVec 32 := Scalar.extui v18
  let v20 : BitVec 32 := Scalar.subi v17 v19
  let v21 : BitVec 1 := Scalar.cmpi .ne v15 v20
  let v22 : BitVec 32 := Scalar.remsi v9 256#32
  let v23 : BitVec 1 := Scalar.cmpi .ne v22 0#32
  let v24 : BitVec 1 := Scalar.andi v21 v23
  let v25 : BitVec 32 := Scalar.subi v10 1#32
  let v26 : BitVec 32 := Scalar.select v24 v25 v10
  let v27 : BitVec 32 := Scalar.addi v26 1#32
  have v28 : IVec S768x8 32 := iota .tc S768x8 32 [0] iota_S768x8_d0_w32
  let v38 : BitVec 1 := Scalar.cmpi .sgt 96#32 0#32
  let v39 : BitVec 32 := Scalar.extui v38
  let v4 := k0_pay10 v3
  let v7 := k0_pay11 v6
  let c96_i32 := 96#32
  let v30 := k0_pay13
  let v37 := k0_pay14
  let v39 := v39
  let ⟨v57, v63, v80, v84⟩ : Σ' (v57 : FVec F S768x8 .bf16) (v63 : FVec F S2048x769 .bf16) (v80 : FVec F S256x768 .f32), FVec F S256x768 .f32 ← k0_part3 i arg1 harg1 arg2 harg2 arg3 harg3 arg4 harg4 arg5 harg5 arg6 harg6 arg7 harg7 arg8 harg8 arg9 harg9 arg10 harg10 arg11 harg11 arg12 harg12 v4 v6 v7 v28 c96_i32 v30 v37 v39
  let ⟨v93, v123, v131, cst_39⟩ : Σ' (v93 : FVec F S256x8 .f32) (v123 : FVec F S256x8 .f32) (v131 : FVec F S256x2048 .bf16), FVec F S256x769 .f32 ← k0_part4 i arg1 harg1 arg2 harg2 arg3 harg3 arg4 harg4 arg5 harg5 arg6 harg6 arg7 harg7 arg8 harg8 arg9 harg9 arg10 harg10 arg11 harg11 arg12 harg12 v4 v6 v7 v57 v63 v80 v84
  let ⟨v153, v170, v174⟩ : Σ' (v153 : FVec F S256x8 .f32) (v170 : FVec F S256x768 .f32), FVec F S256x768 .f32 ← k0_part5 i arg1 harg1 arg2 harg2 arg3 harg3 arg4 harg4 arg5 harg5 arg6 harg6 arg7 harg7 arg8 harg8 arg9 harg9 arg10 harg10 arg11 harg11 arg12 harg12 v4 v6 v7 v57 v63 v131 cst_39
  let ⟨v183, v213, v221, cst_69⟩ : Σ' (v183 : FVec F S256x8 .f32) (v213 : FVec F S256x8 .f32) (v221 : FVec F S256x2048 .bf16), FVec F S256x769 .f32 ← k0_part6 i arg1 harg1 arg2 harg2 arg3 harg3 arg4 harg4 arg5 harg5 arg6 harg6 arg7 harg7 arg8 harg8 arg9 harg9 arg10 harg10 arg11 harg11 arg12 harg12 v4 v6 v7 v57 v63 v170 v174
  let ⟨v243, v260, v264⟩ : Σ' (v243 : FVec F S256x8 .f32) (v260 : FVec F S256x768 .f32), FVec F S256x768 .f32 ← k0_part7 i arg1 harg1 arg2 harg2 arg3 harg3 arg4 harg4 arg5 harg5 arg6 harg6 arg7 harg7 arg8 harg8 arg9 harg9 arg10 harg10 arg11 harg11 arg12 harg12 v4 v6 v7 v57 v63 v221 cst_69
  let ⟨v309, v310, v311⟩ : Σ' (v309 : FVec F S2048x8 .f32) (v310 : FVec F S2048x8 .bf16), IVec S256x1 32 ← k0_part8 i arg1 harg1 arg2 harg2 arg3 harg3 arg4 harg4 arg5 harg5 arg6 harg6 arg7 harg7 arg8 harg8 arg9 harg9 arg10 harg10 arg11 harg11 arg12 harg12 v4 v6 v7 v57 v63 v93 v123 v153 v183 v213 v243 v260 v264
  let ⟨v336, v352, v356⟩ : Σ' (v336 : FVec F S256x768 .bf16) (v352 : FVec F S256x768 .f32), FVec F S256x768 .f32 ← k0_part9 i arg1 harg1 arg2 harg2 arg3 harg3 arg4 harg4 arg5 harg5 arg6 harg6 arg7 harg7 arg8 harg8 arg9 harg9 arg10 harg10 arg11 harg11 arg12 harg12 v4 v6 v7 v57 v309 v310 v311
  let ⟨v362, v388, v404⟩ : Σ' (v362 : FVec F S256x768 .bf16) (v388 : FVec F S256x768 .bf16), FVec F S256x768 .f32 ← k0_part10 i arg1 harg1 arg2 harg2 arg3 harg3 arg4 harg4 arg5 harg5 arg6 harg6 arg7 harg7 arg8 harg8 arg9 harg9 arg10 harg10 arg11 harg11 arg12 harg12 v4 v6 v7 v57 v309 v310 v352 v356
  let ⟨v414, v440, v449, v450⟩ : Σ' (v414 : FVec F S256x768 .bf16) (v440 : FVec F S256x768 .bf16) (v449 : FVec F S256x8 .f32), FVec F S256x8 .f32 ← k0_part11 i arg1 harg1 arg2 harg2 arg3 harg3 arg4 harg4 arg5 harg5 arg6 harg6 arg7 harg7 arg8 harg8 arg9 harg9 arg10 harg10 arg11 harg11 arg12 harg12 v4 v6 v7 v57 v309 v310 v404
  let ⟨v466, v492, v493, v495⟩ : Σ' (v466 : FVec F S256x768 .bf16) (v492 : FVec F S256x768 .bf16) (v493 : IVec S256x1 32), IVec S256x2048 32 ← k0_part12 i arg1 harg1 arg2 harg2 arg3 harg3 arg4 harg4 arg5 harg5 arg6 harg6 arg7 harg7 arg8 harg8 arg9 harg9 arg10 harg10 arg11 harg11 arg12 harg12 v4 v6 v7 v57 v309 v310 v449 v450
  k v4 v6 v9 v27 v57 v309 v310 v336 v362 v388 v414 v440 v466 v492 v493 v495

/-- The program's test that the grid point is the first. -/
abbrev firstPoint (i : grid0.Coords) : Prop := Scalar.cmpi .ne (Scalar.extui (Scalar.cmpi .eq (BitVec.ofNat 32 (i 0).val) 0#32)) 0#32 = 1#1

/-- The store of the segment numbers, which only the first grid point performs, with the rest of the body as `k`. -/
noncomputable def segProg
    (k : Prog (TpuEff nD τ sig (Elt F) Λ₀ .tc) PUnit) :
    Prog (TpuEff nD τ sig (Elt F) Λ₀ .tc) PUnit := do
  let ⟨v576, v585, v594, v603, v612, v613, v614, v615⟩ : Σ' (v576 : FVec F S8x2048 .bf16) (v585 : FVec F S8x256 .f32) (v594 : FVec F S8x256 .f32) (v603 : FVec F S8x256 .f32) (v612 : FVec F S8x256 .f32) (v613 : IVec S2048x256 32) (v614 : IVec S2048x256 32), IVec S2048x256 32 ← k0_part1 i arg1 harg1 arg2 harg2 arg3 harg3 arg4 harg4 arg5 harg5 arg6 harg6 arg7 harg7 arg8 harg8 arg9 harg9 arg10 harg10 arg11 harg11 arg12 harg12
  let v655 : Vec F S8x2048 .i32 ← Prog.lift (.load arg12 (Rect.unit (s := S8x2048) ![0, 0] S8x2048.size inb_S8x2048_S8x2048_0_0).toLoadRect (View.loadsAt_vmem h_S8x2048))
  Prog.lift (.store arg12 (Rect.unit (s := S8x2048) ![0, 0] S8x2048.size inb_S8x2048_S8x2048_0_0) (k0_pay9 v576 v585 v594 v603 v612 v613 v614 v615) Finset.univ (View.stores_vmem_bits_univ h_S8x2048 rfl) (.inl rfl))
  k

/-- At a later grid point the body is its middle and its tail. -/
theorem body_later (h : ¬ firstPoint i) :
    cc0__body (F := F) i arg1 harg1 arg2 harg2 arg3 harg3 arg4 harg4 arg5 harg5 arg6 harg6 arg7 harg7 arg8 harg8 arg9 harg9 arg10 harg10 arg11 harg11 arg12 harg12 = midProg i arg1 harg1 arg2 harg2 arg3 harg3 arg4 harg4 arg5 harg5 arg6 harg6 arg7 harg7 arg8 harg8 arg9 harg9 arg10 harg10 arg11 harg11 arg12 harg12 (tailProg i arg1 harg1 arg2 harg2 arg3 harg3 arg4 harg4 arg5 harg5 arg6 harg6 arg7 harg7 arg8 harg8 arg9 harg9 arg10 harg10 arg11 harg11 arg12 harg12) := by
  rw [cc0__body_eq_skeleton]; unfold cc0__body_skel
  rw [k0_part2_eq_skeleton]; unfold k0_part2_skel
  simp only [dif_neg h]
  rfl

/-- At the first grid point the body stores the segment numbers before its middle and its tail. -/
theorem body_first (h : firstPoint i) :
    cc0__body (F := F) i arg1 harg1 arg2 harg2 arg3 harg3 arg4 harg4 arg5 harg5 arg6 harg6 arg7 harg7 arg8 harg8 arg9 harg9 arg10 harg10 arg11 harg11 arg12 harg12 = segProg i arg1 harg1 arg2 harg2 arg3 harg3 arg4 harg4 arg5 harg5 arg6 harg6 arg7 harg7 arg8 harg8 arg9 harg9 arg10 harg10 arg11 harg11 arg12 harg12 (midProg i arg1 harg1 arg2 harg2 arg3 harg3 arg4 harg4 arg5 harg5 arg6 harg6 arg7 harg7 arg8 harg8 arg9 harg9 arg10 harg10 arg11 harg11 arg12 harg12 (tailProg i arg1 harg1 arg2 harg2 arg3 harg3 arg4 harg4 arg5 harg5 arg6 harg6 arg7 harg7 arg8 harg8 arg9 harg9 arg10 harg10 arg11 harg11 arg12 harg12)) := by
  rw [cc0__body_eq_skeleton]; unfold cc0__body_skel
  rw [k0_part2_eq_skeleton]; unfold k0_part2_skel
  simp only [dif_pos h]
  rfl

/-- The program's test that tile `t` of segments is among the `w` tiles in use. -/
abbrev used (w t : BitVec 32) : Prop := Scalar.cmpi .ne (Scalar.extui (Scalar.cmpi .sgt w t)) 0#32 = 1#1

/-- The program's test that tile `t` of segments is past the `w` tiles in use. -/
abbrev unused (w t : BitVec 32) : Prop := Scalar.cmpi .ne (Scalar.extui (Scalar.cmpi .sle w t)) 0#32 = 1#1

/-- The two tests exclude one another and one of them holds. -/
theorem unused_iff (w t : BitVec 32) : unused w t ↔ ¬ used w t := by
  unfold unused used
  have h : Scalar.cmpi .sle w t = ~~~ Scalar.cmpi .sgt w t := by
    simp only [Scalar.cmpi, IntOp.cmpi]
    rw [show w.sle t = !t.slt w from BitVec.sle_eq_not_slt ..]
    cases t.slt w <;> rfl
  rw [h]
  generalize Scalar.cmpi .sgt w t = b
  revert b; decide

/-- What the tail's stores leave in the output's staging buffer, last store first: per tile the attention's output
    where the tile is in use, zeros where it is not. -/
def tailPieces (v4 : FVec F S2048x768 .bf16) (v6 : Vec F S1x2048 .i32) (v9 : BitVec 32) (v27 : BitVec 32) (v57 : FVec F S768x8 .bf16) (v309 : FVec F S2048x8 .f32) (v310 : FVec F S2048x8 .bf16) (v336 : FVec F S256x768 .bf16) (v362 : FVec F S256x768 .bf16) (v388 : FVec F S256x768 .bf16) (v414 : FVec F S256x768 .bf16) (v440 : FVec F S256x768 .bf16) (v466 : FVec F S256x768 .bf16) (v492 : FVec F S256x768 .bf16) (v493 : IVec S256x1 32) (v495 : IVec S256x2048 32)
    (w5 w6 : Vec F S768x768 .bf16) (w9 w10 : Vec F S1x768 .f32) : List (View.Piece (Elt F) S1x2048x768 .f32) :=
  [(⟨Rect.unit (s := S1x2048x768) ![0, 1792, 0] S1x256x768.size inb_S1x2048x768_S1x256x768_0_1792_0, if used v27 7#32 then k0_pay1 v6 v9 (k0_pay48 v4 v57 v309 v310 v336 v362 v388 v414 v440 v466 v492 v493 v495 w5 w9) (iota .tc S256x1 32 [0] iota_S256x1_d0_w32) w6 w10 else k0_pay2 (F := F)⟩ : View.Piece (Elt F) S1x2048x768 .f32),
   (⟨Rect.unit (s := S1x2048x768) ![0, 1536, 0] S1x256x768.size inb_S1x2048x768_S1x256x768_0_1536_0, if used v27 6#32 then k0_pay61 v6 v9 (k0_pay48 v4 v57 v309 v310 v336 v362 v388 v414 v440 v466 v492 v493 v495 w5 w9) (iota .tc S256x1 32 [0] iota_S256x1_d0_w32) w6 w10 else k0_pay62 (F := F)⟩ : View.Piece (Elt F) S1x2048x768 .f32),
   (⟨Rect.unit (s := S1x2048x768) ![0, 1280, 0] S1x256x768.size inb_S1x2048x768_S1x256x768_0_1280_0, if used v27 5#32 then k0_pay59 v6 v9 (k0_pay48 v4 v57 v309 v310 v336 v362 v388 v414 v440 v466 v492 v493 v495 w5 w9) (iota .tc S256x1 32 [0] iota_S256x1_d0_w32) w6 w10 else k0_pay60 (F := F)⟩ : View.Piece (Elt F) S1x2048x768 .f32),
   (⟨Rect.unit (s := S1x2048x768) ![0, 1024, 0] S1x256x768.size inb_S1x2048x768_S1x256x768_0_1024_0, if used v27 4#32 then k0_pay57 v6 v9 (k0_pay48 v4 v57 v309 v310 v336 v362 v388 v414 v440 v466 v492 v493 v495 w5 w9) (iota .tc S256x1 32 [0] iota_S256x1_d0_w32) w6 w10 else k0_pay58 (F := F)⟩ : View.Piece (Elt F) S1x2048x768 .f32),
   (⟨Rect.unit (s := S1x2048x768) ![0, 768, 0] S1x256x768.size inb_S1x2048x768_S1x256x768_0_768_0, if used v27 3#32 then k0_pay55 v6 v9 (k0_pay48 v4 v57 v309 v310 v336 v362 v388 v414 v440 v466 v492 v493 v495 w5 w9) (iota .tc S256x1 32 [0] iota_S256x1_d0_w32) w6 w10 else k0_pay56 (F := F)⟩ : View.Piece (Elt F) S1x2048x768 .f32),
   (⟨Rect.unit (s := S1x2048x768) ![0, 512, 0] S1x256x768.size inb_S1x2048x768_S1x256x768_0_512_0, if used v27 2#32 then k0_pay53 v6 v9 (k0_pay48 v4 v57 v309 v310 v336 v362 v388 v414 v440 v466 v492 v493 v495 w5 w9) (iota .tc S256x1 32 [0] iota_S256x1_d0_w32) w6 w10 else k0_pay54 (F := F)⟩ : View.Piece (Elt F) S1x2048x768 .f32),
   (⟨Rect.unit (s := S1x2048x768) ![0, 256, 0] S1x256x768.size inb_S1x2048x768_S1x256x768_0_256_0, if used v27 1#32 then k0_pay51 v4 v6 v9 v57 v309 v310 v336 v362 v388 v414 v440 v466 v492 v493 v495 w5 w9 w6 w10 else k0_pay52 (F := F)⟩ : View.Piece (Elt F) S1x2048x768 .f32),
   (⟨Rect.unit (s := S1x2048x768) ![0, 0, 0] S1x256x768.size inb_S1x2048x768_S1x256x768_0_0_0, if used v27 0#32 then k0_pay49 v4 v6 v9 v57 v309 v310 v336 v362 v388 v414 v440 v466 v492 v493 v495 w5 w9 w6 w10 else k0_pay50 (F := F)⟩ : View.Piece (Elt F) S1x2048x768 .f32)]

/-- A tile after an unused one is unused. -/
theorem used_mono (w : BitVec 32) (s t : BitVec 32) (h : s.sle t) (hs : ¬ used w s) : ¬ used w t := by
  have key : ∀ a : BitVec 32, used w a ↔ a.slt w := fun a => by
    unfold used
    simp only [Scalar.cmpi, IntOp.cmpi]
    cases a.slt w <;> decide
  rw [key] at hs ⊢
  simp only [BitVec.slt_eq_decide, BitVec.sle_eq_decide, decide_eq_true_eq] at *
  omega

/-- The tiles in use are the first `n`, for some `n ≤ 8`. -/
theorem tile_cases (w : BitVec 32) : (¬ used w 0#32 ∧ unused w 0#32 ∧ ¬ used w 1#32 ∧ unused w 1#32 ∧ ¬ used w 2#32 ∧ unused w 2#32 ∧ ¬ used w 3#32 ∧ unused w 3#32 ∧ ¬ used w 4#32 ∧ unused w 4#32 ∧ ¬ used w 5#32 ∧ unused w 5#32 ∧ ¬ used w 6#32 ∧ unused w 6#32 ∧ ¬ used w 7#32 ∧ unused w 7#32) ∨ (used w 0#32 ∧ ¬ unused w 0#32 ∧ ¬ used w 1#32 ∧ unused w 1#32 ∧ ¬ used w 2#32 ∧ unused w 2#32 ∧ ¬ used w 3#32 ∧ unused w 3#32 ∧ ¬ used w 4#32 ∧ unused w 4#32 ∧ ¬ used w 5#32 ∧ unused w 5#32 ∧ ¬ used w 6#32 ∧ unused w 6#32 ∧ ¬ used w 7#32 ∧ unused w 7#32) ∨ (used w 0#32 ∧ ¬ unused w 0#32 ∧ used w 1#32 ∧ ¬ unused w 1#32 ∧ ¬ used w 2#32 ∧ unused w 2#32 ∧ ¬ used w 3#32 ∧ unused w 3#32 ∧ ¬ used w 4#32 ∧ unused w 4#32 ∧ ¬ used w 5#32 ∧ unused w 5#32 ∧ ¬ used w 6#32 ∧ unused w 6#32 ∧ ¬ used w 7#32 ∧ unused w 7#32) ∨ (used w 0#32 ∧ ¬ unused w 0#32 ∧ used w 1#32 ∧ ¬ unused w 1#32 ∧ used w 2#32 ∧ ¬ unused w 2#32 ∧ ¬ used w 3#32 ∧ unused w 3#32 ∧ ¬ used w 4#32 ∧ unused w 4#32 ∧ ¬ used w 5#32 ∧ unused w 5#32 ∧ ¬ used w 6#32 ∧ unused w 6#32 ∧ ¬ used w 7#32 ∧ unused w 7#32) ∨ (used w 0#32 ∧ ¬ unused w 0#32 ∧ used w 1#32 ∧ ¬ unused w 1#32 ∧ used w 2#32 ∧ ¬ unused w 2#32 ∧ used w 3#32 ∧ ¬ unused w 3#32 ∧ ¬ used w 4#32 ∧ unused w 4#32 ∧ ¬ used w 5#32 ∧ unused w 5#32 ∧ ¬ used w 6#32 ∧ unused w 6#32 ∧ ¬ used w 7#32 ∧ unused w 7#32) ∨ (used w 0#32 ∧ ¬ unused w 0#32 ∧ used w 1#32 ∧ ¬ unused w 1#32 ∧ used w 2#32 ∧ ¬ unused w 2#32 ∧ used w 3#32 ∧ ¬ unused w 3#32 ∧ used w 4#32 ∧ ¬ unused w 4#32 ∧ ¬ used w 5#32 ∧ unused w 5#32 ∧ ¬ used w 6#32 ∧ unused w 6#32 ∧ ¬ used w 7#32 ∧ unused w 7#32) ∨ (used w 0#32 ∧ ¬ unused w 0#32 ∧ used w 1#32 ∧ ¬ unused w 1#32 ∧ used w 2#32 ∧ ¬ unused w 2#32 ∧ used w 3#32 ∧ ¬ unused w 3#32 ∧ used w 4#32 ∧ ¬ unused w 4#32 ∧ used w 5#32 ∧ ¬ unused w 5#32 ∧ ¬ used w 6#32 ∧ unused w 6#32 ∧ ¬ used w 7#32 ∧ unused w 7#32) ∨ (used w 0#32 ∧ ¬ unused w 0#32 ∧ used w 1#32 ∧ ¬ unused w 1#32 ∧ used w 2#32 ∧ ¬ unused w 2#32 ∧ used w 3#32 ∧ ¬ unused w 3#32 ∧ used w 4#32 ∧ ¬ unused w 4#32 ∧ used w 5#32 ∧ ¬ unused w 5#32 ∧ used w 6#32 ∧ ¬ unused w 6#32 ∧ ¬ used w 7#32 ∧ unused w 7#32) ∨ (used w 0#32 ∧ ¬ unused w 0#32 ∧ used w 1#32 ∧ ¬ unused w 1#32 ∧ used w 2#32 ∧ ¬ unused w 2#32 ∧ used w 3#32 ∧ ¬ unused w 3#32 ∧ used w 4#32 ∧ ¬ unused w 4#32 ∧ used w 5#32 ∧ ¬ unused w 5#32 ∧ used w 6#32 ∧ ¬ unused w 6#32 ∧ used w 7#32 ∧ ¬ unused w 7#32) := by
  simp only [unused_iff, not_not, and_self]
  have m := used_mono w
  have m0 := m 0#32 1#32 (by decide)
  have m1 := m 1#32 2#32 (by decide)
  have m2 := m 2#32 3#32 (by decide)
  have m3 := m 3#32 4#32 (by decide)
  have m4 := m 4#32 5#32 (by decide)
  have m5 := m 5#32 6#32 (by decide)
  have m6 := m 6#32 7#32 (by decide)
  have o0 : used w 0#32 ∨ ¬ used w 0#32 := Classical.em _
  have o1 : used w 1#32 ∨ ¬ used w 1#32 := Classical.em _
  have o2 : used w 2#32 ∨ ¬ used w 2#32 := Classical.em _
  have o3 : used w 3#32 ∨ ¬ used w 3#32 := Classical.em _
  have o4 : used w 4#32 ∨ ¬ used w 4#32 := Classical.em _
  have o5 : used w 5#32 ∨ ¬ used w 5#32 := Classical.em _
  have o6 : used w 6#32 ∨ ¬ used w 6#32 := Classical.em _
  have o7 : used w 7#32 ∨ ¬ used w 7#32 := Classical.em _
  generalize used w 0#32 = p0 at *; generalize used w 1#32 = p1 at *; generalize used w 2#32 = p2 at *; generalize used w 3#32 = p3 at *
  generalize used w 4#32 = p4 at *; generalize used w 5#32 = p5 at *; generalize used w 6#32 = p6 at *; generalize used w 7#32 = p7 at *
  clear m
  by_cases p7; · simp_all
  by_cases p6; · simp_all
  by_cases p5; · simp_all
  by_cases p4; · simp_all
  by_cases p3; · simp_all
  by_cases p2; · simp_all
  by_cases p1; · simp_all
  by_cases p0 <;> simp_all

/-- The segment numbers the first grid point stores, from the boundary marks. -/
def segOf (x1 : Vec F S8x1x2048 .i32) : Vec F S8x2048 .i32 :=
  k0_pay9 (k0_pay3 x1) (k0_pay4 x1) (k0_pay5 x1) (k0_pay6 x1) (k0_pay7 x1) (iota .tc S2048x256 32 [0] iota_S2048x256_d0_w32)
    (iota .tc S2048x256 32 [1] iota_S2048x256_d1_w32) k0_pay8

/-- The last segment number of a row. -/
def lastSeg (r : Vec F S1x2048 .i32) : BitVec 32 := extractAt ![0, 0] (k0_pay12 r) inpos_S1x1_p0_0

/-- The number of tiles in use when the last segment number is `v9`, as the program computes it: the floor of `v9 / 256`, plus one. -/
def tilesUsed (v9 : BitVec 32) : BitVec 32 :=
  Scalar.addi (Scalar.select (Scalar.andi (Scalar.cmpi .ne (Scalar.subi (Scalar.extui (Scalar.cmpi .sgt v9 0#32)) (Scalar.extui (Scalar.cmpi .slt v9 0#32)))
      (Scalar.subi (Scalar.extui (Scalar.cmpi .sgt 256#32 0#32)) (Scalar.extui (Scalar.cmpi .slt 256#32 0#32))))
      (Scalar.cmpi .ne (Scalar.remsi v9 256#32) 0#32)) (Scalar.subi (Scalar.divsi v9 256#32) 1#32) (Scalar.divsi v9 256#32)) 1#32

/-- The 0/1 matrix that says which head a feature belongs to. -/
def headMat : FVec F S768x8 .bf16 :=
  k0_pay15 (F := F) (iota .tc S768x8 32 [0] iota_S768x8_d0_w32) 96#32 k0_pay13 k0_pay14 (Scalar.extui (Scalar.cmpi .sgt 96#32 0#32))

section Values

variable (x0 : Vec F S1x2048x768 .bf16) (x2 x3 x4 : Vec F S768x768 .bf16) (x6 x7 x8 : Vec F S1x768 .f32) (r : Vec F S1x2048 .i32)

/-- The logits of tile 0 of the bytes. -/
def logits0 : FVec F S256x8 .f32 :=
  k0_pay19 headMat (k0_pay17 (k0_pay10 x0) r (k0_pay11 r) x2 x6) (k0_pay18 (k0_pay10 x0) x3) x7

/-- The logits of tile 1 of the bytes. -/
def logits1 : FVec F S256x8 .f32 :=
  k0_pay20 (k0_pay10 x0) r (k0_pay11 r) headMat (k0_pay16 (k0_pay10 x0) x2) x6 x3 x7

/-- The logits of tile 2 of the bytes. -/
def logits2 : FVec F S256x8 .f32 :=
  k0_pay22 (k0_pay10 x0) headMat (k0_pay16 (k0_pay10 x0) x2) (k0_pay21 r (k0_pay11 r)) (constant S256x769 .f32 0x00000000#32) x6 x3 x7

/-- The logits of tile 3 of the bytes. -/
def logits3 : FVec F S256x8 .f32 :=
  k0_pay25 headMat (k0_pay23 r (k0_pay11 r) (k0_pay16 (k0_pay10 x0) x2) x6) (k0_pay24 (k0_pay10 x0) x3) x7

/-- The logits of tile 4 of the bytes. -/
def logits4 : FVec F S256x8 .f32 :=
  k0_pay26 (k0_pay10 x0) r (k0_pay11 r) headMat (k0_pay16 (k0_pay10 x0) x2) x6 x3 x7

/-- The logits of tile 5 of the bytes. -/
def logits5 : FVec F S256x8 .f32 :=
  k0_pay28 (k0_pay10 x0) headMat (k0_pay16 (k0_pay10 x0) x2) (k0_pay27 r (k0_pay11 r)) (constant S256x769 .f32 0x00000000#32) x6 x3 x7

/-- The exponentials of the logits shifted by each head's largest. -/
def expo : FVec F S2048x8 .f32 :=
  k0_pay31 (k0_pay10 x0) r (k0_pay11 r) headMat (k0_pay16 (k0_pay10 x0) x2) (logits0 x0 x2 x3 x6 x7 r) (logits1 x0 x2 x3 x6 x7 r) (logits2 x0 x2 x3 x6 x7 r) (logits3 x0 x2 x3 x6 x7 r) (logits4 x0 x2 x3 x6 x7 r) (logits5 x0 x2 x3 x6 x7 r) (k0_pay29 r (k0_pay11 r) (k0_pay16 (k0_pay10 x0) x2) x6) (k0_pay30 (k0_pay10 x0) x3) x7 x6 x3 x7

/-- The exponentials, in the values' format. -/
def expo16 : FVec F S2048x8 .bf16 :=
  k0_pay32 (k0_pay10 x0) r (k0_pay11 r) headMat (k0_pay16 (k0_pay10 x0) x2) (logits0 x0 x2 x3 x6 x7 r) (logits1 x0 x2 x3 x6 x7 r) (logits2 x0 x2 x3 x6 x7 r) (logits3 x0 x2 x3 x6 x7 r) (logits4 x0 x2 x3 x6 x7 r) (logits5 x0 x2 x3 x6 x7 r) (k0_pay29 r (k0_pay11 r) (k0_pay16 (k0_pay10 x0) x2) x6) (k0_pay30 (k0_pay10 x0) x3) x7 x6 x3 x7

/-- The weighted values of tile 0 of the bytes. -/
def values0 : FVec F S256x768 .bf16 :=
  k0_pay34 (k0_pay10 x0) r headMat (expo x0 x2 x3 x6 x7 r) (expo16 x0 x2 x3 x6 x7 r) (k0_pay33 (k0_pay11 r)) x4 x8

/-- The weighted values of tile 1 of the bytes. -/
def values1 : FVec F S256x768 .bf16 :=
  k0_pay37 (k0_pay35 r (k0_pay11 r) headMat (expo x0 x2 x3 x6 x7 r) (expo16 x0 x2 x3 x6 x7 r)) (k0_pay36 (k0_pay10 x0) x4) x8

/-- The weighted values of tile 2 of the bytes. -/
def values2 : FVec F S256x768 .bf16 :=
  k0_pay38 (k0_pay10 x0) r (k0_pay11 r) headMat (expo x0 x2 x3 x6 x7 r) (expo16 x0 x2 x3 x6 x7 r) x4 x8

/-- The weighted values of tile 3 of the bytes. -/
def values3 : FVec F S256x768 .bf16 :=
  k0_pay40 (k0_pay10 x0) (k0_pay39 r (k0_pay11 r) headMat (expo x0 x2 x3 x6 x7 r) (expo16 x0 x2 x3 x6 x7 r)) x4 x8

/-- The weighted values of tile 4 of the bytes. -/
def values4 : FVec F S256x768 .bf16 :=
  k0_pay41 (k0_pay10 x0) r (k0_pay11 r) headMat (expo x0 x2 x3 x6 x7 r) (expo16 x0 x2 x3 x6 x7 r) x4 x8

/-- The weighted values of tile 5 of the bytes. -/
def values5 : FVec F S256x768 .bf16 :=
  k0_pay44 (k0_pay10 x0) headMat (k0_pay42 r (k0_pay11 r) (expo16 x0 x2 x3 x6 x7 r)) (k0_pay43 (expo x0 x2 x3 x6 x7 r)) x4 x8

/-- The weighted values of tile 6 of the bytes. -/
def values6 : FVec F S256x768 .bf16 :=
  k0_pay45 (k0_pay10 x0) r (k0_pay11 r) headMat (expo x0 x2 x3 x6 x7 r) (expo16 x0 x2 x3 x6 x7 r) x4 x8

end Values

/-- The first grid point's store, of the marks as loaded, leaves the segment numbers in the scratch buffer. -/
theorem seg_run_loads (c : Dev nD) (l1 : Vec F S8x1x2048 .i32)
    (h1 : View.readAt (Elt F) arg2.view (Rect.unit (s := S8x1x2048) ![0, 0, 0] S8x1x2048.size inb_S8x1x2048_S8x1x2048_0_0_0).toLoadRect (harg2.unread x1) = l1)
    (E : Set ℕ) (K : PUnit → sProp 𝕄)
    (k : Prog (TpuEff nD τ sig (Elt F) Λ₀ .tc) PUnit) :
    iprop(owns (c : Thread nD τ) arg2 fullShare x1 ∗ (∃ d, owns (c : Thread nD τ) arg12 fullShare d)
        ∗ (iprop(owns (c : Thread nD τ) arg2 fullShare x1 ∗ owns (c : Thread nD τ) arg12 fullShare (segOf l1)) -∗ wp frame (wpE (defs₀ (F := F)) Variants.none c none) E k K))
      ⊢ wp frame (wpE (defs₀ (F := F)) Variants.none c none) E (segProg i arg1 harg1 arg2 harg2 arg3 harg3 arg4 harg4 arg5 harg5 arg6 harg6 arg7 harg7 arg8 harg8 arg9 harg9 arg10 harg10 arg11 harg11 arg12 harg12 k) K := by
  subst h1
  unfold segProg
  simp only [k0_part1_eq_skeleton]
  unfold owns
  iintro ⟨⟨%f1, %hf1, H1⟩, ⟨%d12, %f12, -, HS0⟩, Hk⟩
  obtain rfl := harg2.eq_unread hf1
  sl_exec
  iapply Hk
  isplitl [H1]
  · iexists _; isplitr; · ipureintro; exact harg2.read_unread _
    iexact H1
  iexists _; isplitr
  swap
  · iexact HS0
  · ipureintro
    exact View.read_writes_full _ _ _ _ _

set_option maxHeartbeats 2000000 in
/-- The middle of the body, its loads' values as named, runs to its continuation with the values named above, every
    buffer unchanged. -/
theorem mid_run_loads (c : Dev nD) (xs0 : Vec F S8x2048 .i32)
    (l0 : Vec F S1x2048x768 .bf16) (h0 : View.readAt (Elt F) arg1.view (Rect.unit (s := S1x2048x768) ![0, 0, 0] S1x2048x768.size inb_S1x2048x768_S1x2048x768_0_0_0).toLoadRect (harg1.unread x0) = l0) (l2 : Vec F S768x768 .bf16) (h2 : View.readAt (Elt F) arg3.view (Rect.unit (s := S768x768) ![0, 0] S768x768.size inb_S768x768_S768x768_0_0).toLoadRect (harg3.unread x2) = l2) (l3 : Vec F S768x768 .bf16) (h3 : View.readAt (Elt F) arg4.view (Rect.unit (s := S768x768) ![0, 0] S768x768.size inb_S768x768_S768x768_0_0).toLoadRect (harg4.unread x3) = l3) (l4 : Vec F S768x768 .bf16) (h4 : View.readAt (Elt F) arg5.view (Rect.unit (s := S768x768) ![0, 0] S768x768.size inb_S768x768_S768x768_0_0).toLoadRect (harg5.unread x4) = l4) (l6 : Vec F S1x768 .f32) (h6 : View.readAt (Elt F) arg7.view (Rect.unit (s := S1x768) ![0, 0] S1x768.size inb_S1x768_S1x768_0_0).toLoadRect (harg7.unread x6) = l6) (l7 : Vec F S1x768 .f32) (h7 : View.readAt (Elt F) arg8.view (Rect.unit (s := S1x768) ![0, 0] S1x768.size inb_S1x768_S1x768_0_0).toLoadRect (harg8.unread x7) = l7) (l8 : Vec F S1x768 .f32) (h8 : View.readAt (Elt F) arg9.view (Rect.unit (s := S1x768) ![0, 0] S1x768.size inb_S1x768_S1x768_0_0).toLoadRect (harg9.unread x8) = l8) (r : Vec F S1x2048 .i32)
    (hr : View.readAt (Elt F) arg12.view (Rect.unit (s := S8x2048) (k0_off1 i) S1x2048.size (k0_off1_inb i)).toLoadRect (harg12.unread xs0) = r)
    (E : Set ℕ) (K : PUnit → sProp 𝕄) (k : FVec F S2048x768 .bf16 → Vec F S1x2048 .i32 → BitVec 32 → BitVec 32 → FVec F S768x8 .bf16 → FVec F S2048x8 .f32 → FVec F S2048x8 .bf16 → FVec F S256x768 .bf16 → FVec F S256x768 .bf16 → FVec F S256x768 .bf16 → FVec F S256x768 .bf16 → FVec F S256x768 .bf16 → FVec F S256x768 .bf16 → FVec F S256x768 .bf16 → IVec S256x1 32 → IVec S256x2048 32 → Prog (TpuEff nD τ sig (Elt F) Λ₀ .tc) PUnit) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg12 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg12 fullShare xs0) -∗ wp frame (wpE (defs₀ (F := F)) Variants.none c none) E (k (k0_pay10 l0) r (lastSeg r) (tilesUsed (lastSeg r)) headMat (expo l0 l2 l3 l6 l7 r) (expo16 l0 l2 l3 l6 l7 r) (values0 l0 l2 l3 l4 l6 l7 l8 r) (values1 l0 l2 l3 l4 l6 l7 l8 r) (values2 l0 l2 l3 l4 l6 l7 l8 r) (values3 l0 l2 l3 l4 l6 l7 l8 r) (values4 l0 l2 l3 l4 l6 l7 l8 r) (values5 l0 l2 l3 l4 l6 l7 l8 r) (values6 l0 l2 l3 l4 l6 l7 l8 r) (k0_pay46 (k0_pay11 r)) (k0_pay47 r)) K))
      ⊢ wp frame (wpE (defs₀ (F := F)) Variants.none c none) E (midProg i arg1 harg1 arg2 harg2 arg3 harg3 arg4 harg4 arg5 harg5 arg6 harg6 arg7 harg7 arg8 harg8 arg9 harg9 arg10 harg10 arg11 harg11 arg12 harg12 k) K := by
  subst h0; subst h2; subst h3; subst h4; subst h6; subst h7; subst h8; subst hr
  unfold midProg
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f12, %hf12, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  obtain rfl := harg12.eq_unread hf12
  sl_exec
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  iexists _; isplitr; · ipureintro; exact harg12.read_unread _
  iexact HS0

section Tail

attribute [local irreducible] k0_pay48 k0_pay49 k0_pay50 k0_pay51 k0_pay52 k0_pay53 k0_pay54 k0_pay55 k0_pay56 k0_pay57 k0_pay58 k0_pay59 k0_pay60 k0_pay61 k0_pay62 k0_pay1 k0_pay2

set_option maxHeartbeats 4000000 in
/-- The tail of the body, its loads' values as named, leaves each tile's choice in the output's buffer: the tiles in
    use are an initial segment, so the run is looked at once per number of them. -/
theorem tail_run_loads (c : Dev nD) (v4 : FVec F S2048x768 .bf16) (v6 : Vec F S1x2048 .i32) (v9 : BitVec 32) (v27 : BitVec 32) (v57 : FVec F S768x8 .bf16) (v309 : FVec F S2048x8 .f32) (v310 : FVec F S2048x8 .bf16) (v336 : FVec F S256x768 .bf16) (v362 : FVec F S256x768 .bf16) (v388 : FVec F S256x768 .bf16) (v414 : FVec F S256x768 .bf16) (v440 : FVec F S256x768 .bf16) (v466 : FVec F S256x768 .bf16) (v492 : FVec F S256x768 .bf16) (v493 : IVec S256x1 32) (v495 : IVec S256x2048 32)
    (w5 : Vec F S768x768 .bf16) (hw5 : View.readAt (Elt F) arg5.view (Rect.unit (s := S768x768) ![0, 0] S768x768.size inb_S768x768_S768x768_0_0).toLoadRect (harg5.unread x4) = w5) (w6 : Vec F S768x768 .bf16) (hw6 : View.readAt (Elt F) arg6.view (Rect.unit (s := S768x768) ![0, 0] S768x768.size inb_S768x768_S768x768_0_0).toLoadRect (harg6.unread x5) = w6) (w9 : Vec F S1x768 .f32) (hw9 : View.readAt (Elt F) arg9.view (Rect.unit (s := S1x768) ![0, 0] S1x768.size inb_S1x768_S1x768_0_0).toLoadRect (harg9.unread x8) = w9) (w10 : Vec F S1x768 .f32) (hw10 : View.readAt (Elt F) arg10.view (Rect.unit (s := S1x768) ![0, 0] S1x768.size inb_S1x768_S1x768_0_0).toLoadRect (harg10.unread x9) = w10) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f
            (tailPieces v4 v6 v9 v27 v57 v309 v310 v336 v362 v388 v414 v440 v466 v492 v493 v495 w5 w6 w9 w10))) -∗ K ⟨⟩))
      ⊢ wp frame (wpE (defs₀ (F := F)) Variants.none c none) E (tailProg i arg1 harg1 arg2 harg2 arg3 harg3 arg4 harg4 arg5 harg5 arg6 harg6 arg7 harg7 arg8 harg8 arg9 harg9 arg10 harg10 arg11 harg11 arg12 harg12 v4 v6 v9 v27 v57 v309 v310 v336 v362 v388 v414 v440 v466 v492 v493 v495) K := by
  subst hw5; subst hw6; subst hw9; subst hw10
  unfold tailProg tailPieces
  simp only [k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  obtain ⟨c0, d0, c1, d1, c2, d2, c3, d3, c4, d4, c5, d5, c6, d6, c7, d7⟩ | ⟨c0, d0, c1, d1, c2, d2, c3, d3, c4, d4, c5, d5, c6, d6, c7, d7⟩ | ⟨c0, d0, c1, d1, c2, d2, c3, d3, c4, d4, c5, d5, c6, d6, c7, d7⟩ | ⟨c0, d0, c1, d1, c2, d2, c3, d3, c4, d4, c5, d5, c6, d6, c7, d7⟩ | ⟨c0, d0, c1, d1, c2, d2, c3, d3, c4, d4, c5, d5, c6, d6, c7, d7⟩ | ⟨c0, d0, c1, d1, c2, d2, c3, d3, c4, d4, c5, d5, c6, d6, c7, d7⟩ | ⟨c0, d0, c1, d1, c2, d2, c3, d3, c4, d4, c5, d5, c6, d6, c7, d7⟩ | ⟨c0, d0, c1, d1, c2, d2, c3, d3, c4, d4, c5, d5, c6, d6, c7, d7⟩ | ⟨c0, d0, c1, d1, c2, d2, c3, d3, c4, d4, c5, d5, c6, d6, c7, d7⟩ : (¬ used v27 0#32 ∧ unused v27 0#32 ∧ ¬ used v27 1#32 ∧ unused v27 1#32 ∧ ¬ used v27 2#32 ∧ unused v27 2#32 ∧ ¬ used v27 3#32 ∧ unused v27 3#32 ∧ ¬ used v27 4#32 ∧ unused v27 4#32 ∧ ¬ used v27 5#32 ∧ unused v27 5#32 ∧ ¬ used v27 6#32 ∧ unused v27 6#32 ∧ ¬ used v27 7#32 ∧ unused v27 7#32) ∨ (used v27 0#32 ∧ ¬ unused v27 0#32 ∧ ¬ used v27 1#32 ∧ unused v27 1#32 ∧ ¬ used v27 2#32 ∧ unused v27 2#32 ∧ ¬ used v27 3#32 ∧ unused v27 3#32 ∧ ¬ used v27 4#32 ∧ unused v27 4#32 ∧ ¬ used v27 5#32 ∧ unused v27 5#32 ∧ ¬ used v27 6#32 ∧ unused v27 6#32 ∧ ¬ used v27 7#32 ∧ unused v27 7#32) ∨ (used v27 0#32 ∧ ¬ unused v27 0#32 ∧ used v27 1#32 ∧ ¬ unused v27 1#32 ∧ ¬ used v27 2#32 ∧ unused v27 2#32 ∧ ¬ used v27 3#32 ∧ unused v27 3#32 ∧ ¬ used v27 4#32 ∧ unused v27 4#32 ∧ ¬ used v27 5#32 ∧ unused v27 5#32 ∧ ¬ used v27 6#32 ∧ unused v27 6#32 ∧ ¬ used v27 7#32 ∧ unused v27 7#32) ∨ (used v27 0#32 ∧ ¬ unused v27 0#32 ∧ used v27 1#32 ∧ ¬ unused v27 1#32 ∧ used v27 2#32 ∧ ¬ unused v27 2#32 ∧ ¬ used v27 3#32 ∧ unused v27 3#32 ∧ ¬ used v27 4#32 ∧ unused v27 4#32 ∧ ¬ used v27 5#32 ∧ unused v27 5#32 ∧ ¬ used v27 6#32 ∧ unused v27 6#32 ∧ ¬ used v27 7#32 ∧ unused v27 7#32) ∨ (used v27 0#32 ∧ ¬ unused v27 0#32 ∧ used v27 1#32 ∧ ¬ unused v27 1#32 ∧ used v27 2#32 ∧ ¬ unused v27 2#32 ∧ used v27 3#32 ∧ ¬ unused v27 3#32 ∧ ¬ used v27 4#32 ∧ unused v27 4#32 ∧ ¬ used v27 5#32 ∧ unused v27 5#32 ∧ ¬ used v27 6#32 ∧ unused v27 6#32 ∧ ¬ used v27 7#32 ∧ unused v27 7#32) ∨ (used v27 0#32 ∧ ¬ unused v27 0#32 ∧ used v27 1#32 ∧ ¬ unused v27 1#32 ∧ used v27 2#32 ∧ ¬ unused v27 2#32 ∧ used v27 3#32 ∧ ¬ unused v27 3#32 ∧ used v27 4#32 ∧ ¬ unused v27 4#32 ∧ ¬ used v27 5#32 ∧ unused v27 5#32 ∧ ¬ used v27 6#32 ∧ unused v27 6#32 ∧ ¬ used v27 7#32 ∧ unused v27 7#32) ∨ (used v27 0#32 ∧ ¬ unused v27 0#32 ∧ used v27 1#32 ∧ ¬ unused v27 1#32 ∧ used v27 2#32 ∧ ¬ unused v27 2#32 ∧ used v27 3#32 ∧ ¬ unused v27 3#32 ∧ used v27 4#32 ∧ ¬ unused v27 4#32 ∧ used v27 5#32 ∧ ¬ unused v27 5#32 ∧ ¬ used v27 6#32 ∧ unused v27 6#32 ∧ ¬ used v27 7#32 ∧ unused v27 7#32) ∨ (used v27 0#32 ∧ ¬ unused v27 0#32 ∧ used v27 1#32 ∧ ¬ unused v27 1#32 ∧ used v27 2#32 ∧ ¬ unused v27 2#32 ∧ used v27 3#32 ∧ ¬ unused v27 3#32 ∧ used v27 4#32 ∧ ¬ unused v27 4#32 ∧ used v27 5#32 ∧ ¬ unused v27 5#32 ∧ used v27 6#32 ∧ ¬ unused v27 6#32 ∧ ¬ used v27 7#32 ∧ unused v27 7#32) ∨ (used v27 0#32 ∧ ¬ unused v27 0#32 ∧ used v27 1#32 ∧ ¬ unused v27 1#32 ∧ used v27 2#32 ∧ ¬ unused v27 2#32 ∧ used v27 3#32 ∧ ¬ unused v27 3#32 ∧ used v27 4#32 ∧ ¬ unused v27 4#32 ∧ used v27 5#32 ∧ ¬ unused v27 5#32 ∧ used v27 6#32 ∧ ¬ unused v27 6#32 ∧ used v27 7#32 ∧ ¬ unused v27 7#32) := tile_cases v27
  all_goals
    sl_exec (disch := first | sl_exact c0 | sl_exact d0 | sl_exact c1 | sl_exact d1 | sl_exact c2 | sl_exact d2 | sl_exact c3 | sl_exact d3 | sl_exact c4 | sl_exact d4 | sl_exact c5 | sl_exact d5 | sl_exact c6 | sl_exact d6 | sl_exact c7 | sl_exact d7)

    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    first | rw [if_pos c0] | rw [if_neg c0]
    first | rw [if_pos c1] | rw [if_neg c1]
    first | rw [if_pos c2] | rw [if_neg c2]
    first | rw [if_pos c3] | rw [if_neg c3]
    first | rw [if_pos c4] | rw [if_neg c4]
    first | rw [if_pos c5] | rw [if_neg c5]
    first | rw [if_pos c6] | rw [if_neg c6]
    first | rw [if_pos c7] | rw [if_neg c7]
    iexists _; iexact H10

end Tail
/-- The row of the scratch buffer a grid point reads: its batch's segment numbers. -/
def rowOf (i : grid0.Coords) (xs0 : Vec F S8x2048 .i32) : Vec F S1x2048 .i32 :=
  View.ld xs0 (Rect.unit (s := S8x2048) (k0_off1 i) S1x2048.size (k0_off1_inb i))

/-- A load through a whole memref's own extents reads its contents. -/
theorem load_whole {s : Shape} {e : EltTy} {sp : Space} (a : Memref sig .tc sp s e) (ha : a.IsWhole) (x : s.Idx → Elt F e)
    {off : Fin s.rank → ℕ} (inb : ∀ d, off d + s.size d ≤ s.size d) :
    View.readAt (Elt F) a.view (Rect.unit off s.size inb).toLoadRect (ha.unread x) = x := by
  rw [View.readAt_full]; exact ha.read_unread x

/-- What one grid point's body stores in the output's staging buffer, last store first, from the blocks it loads and
    its row `r` of segment numbers. -/
def outPieces (x0 : Vec F S1x2048x768 .bf16) (x1 : Vec F S8x1x2048 .i32) (x2 : Vec F S768x768 .bf16) (x3 : Vec F S768x768 .bf16) (x4 : Vec F S768x768 .bf16) (x5 : Vec F S768x768 .bf16) (x6 : Vec F S1x768 .f32) (x7 : Vec F S1x768 .f32) (x8 : Vec F S1x768 .f32) (x9 : Vec F S1x768 .f32) (r : Vec F S1x2048 .i32) : List (View.Piece (Elt F) S1x2048x768 .f32) :=
  tailPieces (k0_pay10 x0) r (lastSeg r) (tilesUsed (lastSeg r)) headMat (expo x0 x2 x3 x6 x7 r) (expo16 x0 x2 x3 x6 x7 r) (values0 x0 x2 x3 x4 x6 x7 x8 r) (values1 x0 x2 x3 x4 x6 x7 x8 r) (values2 x0 x2 x3 x4 x6 x7 x8 r) (values3 x0 x2 x3 x4 x6 x7 x8 r) (values4 x0 x2 x3 x4 x6 x7 x8 r) (values5 x0 x2 x3 x4 x6 x7 x8 r) (values6 x0 x2 x3 x4 x6 x7 x8 r) (k0_pay46 (k0_pay11 r)) (k0_pay47 r) x4 x5 x8 x9

/-- The output block of one grid point. -/
def outOf (x0 : Vec F S1x2048x768 .bf16) (x1 : Vec F S8x1x2048 .i32) (x2 : Vec F S768x768 .bf16) (x3 : Vec F S768x768 .bf16) (x4 : Vec F S768x768 .bf16) (x5 : Vec F S768x768 .bf16) (x6 : Vec F S1x768 .f32) (x7 : Vec F S1x768 .f32) (x8 : Vec F S1x768 .f32) (x9 : Vec F S1x768 .f32) (r : Vec F S1x2048 .i32) : Vec F S1x2048x768 .f32 :=
  View.canon (outPieces x0 x1 x2 x3 x4 x5 x6 x7 x8 x9 r)

/-- The stores cover the output block. -/
theorem out_cover (r : Vec F S1x2048 .i32) (y : S1x2048x768.Idx) :
    ∃ p ∈ outPieces x0 x1 x2 x3 x4 x5 x6 x7 x8 x9 r, y ∈ p.1.set :=
  View.cover_of_tiledL (outPieces x0 x1 x2 x3 x4 x5 x6 x7 x8 x9 r) S1x256x768.size (by sl_kernel_rfl) y

/-- The middle and the tail of the body, from a scratch buffer at `xs0`: the output's buffer is left at `outOf`. -/
theorem rest_run (c : Dev nD) (xs0 : Vec F S8x2048 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outOf x0 x1 x2 x3 x4 x5 x6 x7 x8 x9 (rowOf i xs0)) ∗ owns (c : Thread nD τ) arg12 fullShare xs0) -∗ K ⟨⟩))
      ⊢ wp frame (wpE (defs₀ (F := F)) Variants.none c none) E (midProg i arg1 harg1 arg2 harg2 arg3 harg3 arg4 harg4 arg5 harg5 arg6 harg6 arg7 harg7 arg8 harg8 arg9 harg9 arg10 harg10 arg11 harg11 arg12 harg12 (tailProg i arg1 harg1 arg2 harg2 arg3 harg3 arg4 harg4 arg5 harg5 arg6 harg6 arg7 harg7 arg8 harg8 arg9 harg9 arg10 harg10 arg11 harg11 arg12 harg12)) K := by
  iintro ⟨H0, H1, H2, H3, H4, H5, H6, H7, H8, H9, H10, HS0, Hk⟩
  iapply (mid_run_loads i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 c xs0 x0 (load_whole arg1 harg1 x0 _) x2 (load_whole arg3 harg3 x2 _) x3 (load_whole arg4 harg4 x3 _) x4 (load_whole arg5 harg5 x4 _) x6 (load_whole arg7 harg7 x6 _) x7 (load_whole arg8 harg8 x7 _) x8 (load_whole arg9 harg9 x8 _) (rowOf i xs0)
    (by rw [View.readAt_eq_ld, harg12.read_unread]; rfl) E K (tailProg i arg1 harg1 arg2 harg2 arg3 harg3 arg4 harg4 arg5 harg5 arg6 harg6 arg7 harg7 arg8 harg8 arg9 harg9 arg10 harg10 arg11 harg11 arg12 harg12))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  iintro ⟨H0, H1, H2, H3, H4, H5, H6, H7, H8, H9, HS0⟩
  iapply (tail_run_loads i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 c _ _ _ _ _ _ _ _ _ _ _ _ _ _ _ _ x4 (load_whole arg5 harg5 x4 _) x5 (load_whole arg6 harg6 x5 _) x8 (load_whole arg9 harg9 x8 _) x9 (load_whole arg10 harg10 x9 _) E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, ⟨%f10, H10⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_eq_canon _ _ _ (out_cover x0 x1 x2 x3 x4 x5 x6 x7 x8 x9 (rowOf i xs0))
  iexact HS0

/-- The body at a later grid point. -/
theorem body_run_later (c : Dev nD) (h : ¬ firstPoint i) (xs0 : Vec F S8x2048 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outOf x0 x1 x2 x3 x4 x5 x6 x7 x8 x9 (rowOf i xs0)) ∗ owns (c : Thread nD τ) arg12 fullShare xs0) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  rw [body_later i arg1 harg1 arg2 harg2 arg3 harg3 arg4 harg4 arg5 harg5 arg6 harg6 arg7 harg7 arg8 harg8 arg9 harg9 arg10 harg10 arg11 harg11 arg12 harg12 h]
  exact rest_run i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 c xs0 E K

/-- The body at the first grid point, whose scratch buffer holds anything before and the segment numbers after. -/
theorem body_run_first (c : Dev nD) (h : firstPoint i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outOf x0 x1 x2 x3 x4 x5 x6 x7 x8 x9 (rowOf i (segOf x1))) ∗ owns (c : Thread nD τ) arg12 fullShare (segOf x1)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  rw [body_first i arg1 harg1 arg2 harg2 arg3 harg3 arg4 harg4 arg5 harg5 arg6 harg6 arg7 harg7 arg8 harg8 arg9 harg9 arg10 harg10 arg11 harg11 arg12 harg12 h]
  iintro ⟨H0, H1, H2, H3, H4, H5, H6, H7, H8, H9, H10, HS0, Hk⟩
  iapply (seg_run_loads i arg1 harg1 arg2 harg2 arg3 harg3 arg4 harg4 arg5 harg5 arg6 harg6 arg7 harg7 arg8 harg8 arg9 harg9 arg10 harg10 arg11 harg11 arg12 harg12 x1 c x1 (load_whole arg2 harg2 x1 _) E K (midProg i arg1 harg1 arg2 harg2 arg3 harg3 arg4 harg4 arg5 harg5 arg6 harg6 arg7 harg7 arg8 harg8 arg9 harg9 arg10 harg10 arg11 harg11 arg12 harg12 (tailProg i arg1 harg1 arg2 harg2 arg3 harg3 arg4 harg4 arg5 harg5 arg6 harg6 arg7 harg7 arg8 harg8 arg9 harg9 arg10 harg10 arg11 harg11 arg12 harg12)))
  isplitl [H1]; · iexact H1
  isplitl [HS0]; · iexact HS0
  iintro ⟨H1, HS0⟩
  iapply (rest_run i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 c (segOf x1) E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  iexact Hk

end Cert.KernelIdeal.Hand

end
-- ==== Proof.KernelRun.lean ====
module

public import proofs.«01_k».proof.Proof.KernelBody
public import Idealize.ShloMosaic.Lib.Claim
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's test, over the grid: it holds at point 0 only. -/
theorem firstPoint_iff (t : Fin cfg0.N) : firstPoint (grid0.coords t) ↔ t.val = 0 := by
  have ht : t.val < 8 := Nat.lt_of_lt_of_eq t.isLt N_0
  have e0 : (grid0.coords t 0).val = t.val / 1 % 8 := Pipeline.Grid.coords_val t 0 (by decide) rfl
  simp only [firstPoint, e0]
  word_cmp

/-- Window 0's staging memref at a point. -/
abbrev stage0 (t : Fin cfg0.N) : Memref sig .tc .vmem S1x2048x768 .bf16 := win0_0.stage (cfg0.slots t 0)
/-- Window 1's staging memref at a point. -/
abbrev stage1 (t : Fin cfg0.N) : Memref sig .tc .vmem S8x1x2048 .i32 := win0_1.stage (cfg0.slots t 1)
/-- Window 2's staging memref at a point. -/
abbrev stage2 (t : Fin cfg0.N) : Memref sig .tc .vmem S768x768 .bf16 := win0_2.stage (cfg0.slots t 2)
/-- Window 3's staging memref at a point. -/
abbrev stage3 (t : Fin cfg0.N) : Memref sig .tc .vmem S768x768 .bf16 := win0_3.stage (cfg0.slots t 3)
/-- Window 4's staging memref at a point. -/
abbrev stage4 (t : Fin cfg0.N) : Memref sig .tc .vmem S768x768 .bf16 := win0_4.stage (cfg0.slots t 4)
/-- Window 5's staging memref at a point. -/
abbrev stage5 (t : Fin cfg0.N) : Memref sig .tc .vmem S768x768 .bf16 := win0_5.stage (cfg0.slots t 5)
/-- Window 6's staging memref at a point. -/
abbrev stage6 (t : Fin cfg0.N) : Memref sig .tc .vmem S1x768 .f32 := win0_6.stage (cfg0.slots t 6)
/-- Window 7's staging memref at a point. -/
abbrev stage7 (t : Fin cfg0.N) : Memref sig .tc .vmem S1x768 .f32 := win0_7.stage (cfg0.slots t 7)
/-- Window 8's staging memref at a point. -/
abbrev stage8 (t : Fin cfg0.N) : Memref sig .tc .vmem S1x768 .f32 := win0_8.stage (cfg0.slots t 8)
/-- Window 9's staging memref at a point. -/
abbrev stage9 (t : Fin cfg0.N) : Memref sig .tc .vmem S1x768 .f32 := win0_9.stage (cfg0.slots t 9)
/-- Window 10's staging memref at a point. -/
abbrev stage10 (t : Fin cfg0.N) : Memref sig .tc .vmem S1x2048x768 .f32 := win0_10.stage (cfg0.slots t 10)

/-- The scratch buffer that carries the segment numbers from point to point. -/
abbrev scratch : Memref sig .tc .vmem S8x2048 .i32 := Memref.whole cc0_scratch0

/-- The region's own resources: the scratch buffer at anything and the generator register. -/
theorem region_rest (c : Dev nD) :
    (Pipeline.ΦA spec0 c : sProp 𝕄) = iprop(iprop(∃ d, owns (c : Thread nD τ) scratch fullShare d) ∗ (∃ r, prngReg c r)) := by
  unfold Pipeline.ΦA; rw [scopedRest0_eq]; simp only [scratch, owns_whole]; try rfl

/-- The first grid point. -/
def point0 : Fin cfg0.N := ⟨0, by rw [show cfg0.N = 8 from N_0]; decide⟩

/-- The segment numbers of all batches, as point 0 stores them. -/
def segs (c : Dev nD) : Vec F S8x2048 .i32 := segOf (iblk m c 1 point0)

/-- The output block of point `t`. -/
def outAt (c : Dev nD) (t : Fin cfg0.N) : Vec F S1x2048x768 .f32 :=
  outOf (iblk m c 0 t) (iblk m c 1 t) (iblk m c 2 t) (iblk m c 3 t) (iblk m c 4 t) (iblk m c 5 t) (iblk m c 6 t) (iblk m c 7 t) (iblk m c 8 t) (iblk m c 9 t) (rowOf (grid0.coords t) (segs m c))

/-- What is held between points: before the first the region's own resources, afterwards the scratch buffer at the
    segment numbers. -/
def held (c : Dev nD) : (n : ℕ) → n ≤ cfg0.N → sProp 𝕄
  | 0, _ => Pipeline.ΦA spec0 c
  | _ + 1, _ => iprop(iprop(owns (c : Thread nD τ) scratch fullShare (segs m c)) ∗ (∃ r, prngReg c r))

/-- Before the first point the region's own resources are held. -/
theorem held_zero (c : Dev nD) (n : ℕ) (h : n ≤ cfg0.N) (hz : n = 0) : held m c n h = Pipeline.ΦA spec0 c := by subst hz; rfl

/-- After a point the scratch buffer holds the segment numbers. -/
theorem held_succ (c : Dev nD) (n : ℕ) (hn : n < cfg0.N) :
    held m c (n + 1) hn = iprop(iprop(owns (c : Thread nD τ) scratch fullShare (segs m c)) ∗ (∃ r, prngReg c r)) := rfl

/-- So it does before every point but the first. -/
theorem held_pos (c : Dev nD) (n : ℕ) (h : n ≤ cfg0.N) (hz : n ≠ 0) :
    held m c n h = iprop(iprop(owns (c : Thread nD τ) scratch fullShare (segs m c)) ∗ (∃ r, prngReg c r)) := by
  cases n with
  | zero => exact absurd rfl hz
  | succ n => rfl

/-- The proof data of the pipeline: each input's buffer keeps its block, the output's is left at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := held m c t.val (Nat.le_of_lt_succ t.isLt)
  q _ := fullShare
  owed _ := 0

/-- The arrays hold, at the region's entry, what the host operations left. -/
theorem A_eq (c : Dev nD) (w : Fin cfg0.W) : (dats m 0 c).A w = V m c (Pipeline.arrRef spec0 w) := by
  dsimp only [dats]

/-- What is held before a point. -/
theorem held_castSucc (c : Dev nD) (t : Fin cfg0.N) :
    (dats m 0 c).Φ t.castSucc = held m c t.val (Nat.le_of_lt t.isLt) := by
  dsimp only [dats]; exact Pipeline.Dat.Φ_castSucc (held m c) t

/-- A point leaves the features as read. -/
theorem after_0 (c : Dev nD) (t : Fin cfg0.N) : (dats m 0 c).after 0 t = iblk m c 0 t := by dsimp only [dats]
/-- A point leaves the marks as read. -/
theorem after_1 (c : Dev nD) (t : Fin cfg0.N) : (dats m 0 c).after 1 t = iblk m c 1 t := by dsimp only [dats]
/-- A point leaves the query weight as read. -/
theorem after_2 (c : Dev nD) (t : Fin cfg0.N) : (dats m 0 c).after 2 t = iblk m c 2 t := by dsimp only [dats]
/-- A point leaves the key weight as read. -/
theorem after_3 (c : Dev nD) (t : Fin cfg0.N) : (dats m 0 c).after 3 t = iblk m c 3 t := by dsimp only [dats]
/-- A point leaves the value weight as read. -/
theorem after_4 (c : Dev nD) (t : Fin cfg0.N) : (dats m 0 c).after 4 t = iblk m c 4 t := by dsimp only [dats]
/-- A point leaves the output weight as read. -/
theorem after_5 (c : Dev nD) (t : Fin cfg0.N) : (dats m 0 c).after 5 t = iblk m c 5 t := by dsimp only [dats]
/-- A point leaves the query bias as read. -/
theorem after_6 (c : Dev nD) (t : Fin cfg0.N) : (dats m 0 c).after 6 t = iblk m c 6 t := by dsimp only [dats]
/-- A point leaves the key bias as read. -/
theorem after_7 (c : Dev nD) (t : Fin cfg0.N) : (dats m 0 c).after 7 t = iblk m c 7 t := by dsimp only [dats]
/-- A point leaves the value bias as read. -/
theorem after_8 (c : Dev nD) (t : Fin cfg0.N) : (dats m 0 c).after 8 t = iblk m c 8 t := by dsimp only [dats]
/-- A point leaves the output bias as read. -/
theorem after_9 (c : Dev nD) (t : Fin cfg0.N) : (dats m 0 c).after 9 t = iblk m c 9 t := by dsimp only [dats]
/-- A point leaves its output block. -/
theorem after_10 (c : Dev nD) (t : Fin cfg0.N) : (dats m 0 c).after 10 t = outAt m c t := by dsimp only [dats]

/-- A point reads its block of the features. -/
theorem before_0 (c : Dev nD) (t : Fin cfg0.N) (d) : (dats m 0 c).before 0 t d = iblk m c 0 t :=
  before0_0_of m (dats m 0 c) (A_eq m c 0) (after_0 m c) t d
/-- A point reads its block of the marks. -/
theorem before_1 (c : Dev nD) (t : Fin cfg0.N) (d) : (dats m 0 c).before 1 t d = iblk m c 1 t :=
  before0_1_of m (dats m 0 c) (A_eq m c 1) (after_1 m c) t d
/-- A point reads its block of the query weight. -/
theorem before_2 (c : Dev nD) (t : Fin cfg0.N) (d) : (dats m 0 c).before 2 t d = iblk m c 2 t :=
  before0_2_of m (dats m 0 c) (A_eq m c 2) (after_2 m c) t d
/-- A point reads its block of the key weight. -/
theorem before_3 (c : Dev nD) (t : Fin cfg0.N) (d) : (dats m 0 c).before 3 t d = iblk m c 3 t :=
  before0_3_of m (dats m 0 c) (A_eq m c 3) (after_3 m c) t d
/-- A point reads its block of the value weight. -/
theorem before_4 (c : Dev nD) (t : Fin cfg0.N) (d) : (dats m 0 c).before 4 t d = iblk m c 4 t :=
  before0_4_of m (dats m 0 c) (A_eq m c 4) (after_4 m c) t d
/-- A point reads its block of the output weight. -/
theorem before_5 (c : Dev nD) (t : Fin cfg0.N) (d) : (dats m 0 c).before 5 t d = iblk m c 5 t :=
  before0_5_of m (dats m 0 c) (A_eq m c 5) (after_5 m c) t d
/-- A point reads its block of the query bias. -/
theorem before_6 (c : Dev nD) (t : Fin cfg0.N) (d) : (dats m 0 c).before 6 t d = iblk m c 6 t :=
  before0_6_of m (dats m 0 c) (A_eq m c 6) (after_6 m c) t d
/-- A point reads its block of the key bias. -/
theorem before_7 (c : Dev nD) (t : Fin cfg0.N) (d) : (dats m 0 c).before 7 t d = iblk m c 7 t :=
  before0_7_of m (dats m 0 c) (A_eq m c 7) (after_7 m c) t d
/-- A point reads its block of the value bias. -/
theorem before_8 (c : Dev nD) (t : Fin cfg0.N) (d) : (dats m 0 c).before 8 t d = iblk m c 8 t :=
  before0_8_of m (dats m 0 c) (A_eq m c 8) (after_8 m c) t d
/-- A point reads its block of the output bias. -/
theorem before_9 (c : Dev nD) (t : Fin cfg0.N) (d) : (dats m 0 c).before 9 t d = iblk m c 9 t :=
  before0_9_of m (dats m 0 c) (A_eq m c 9) (after_9 m c) t d

/-- Every point loads the same block of marks. -/
theorem marks_const (c : Dev nD) (t : Fin cfg0.N) : iblk m c 1 t = iblk m c 1 point0 := by
  rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare ((dats m 0 c).before 7 t d))
    ∗ (∃ d, owns (c : Thread nD τ) (stage8 t) fullShare ((dats m 0 c).before 8 t d))
    ∗ (∃ d, owns (c : Thread nD τ) (stage9 t) fullShare ((dats m 0 c).before 9 t d))
    ∗ (∃ d, owns (c : Thread nD τ) (stage10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t)
    ∗ owns (c : Thread nD τ) (stage6 t) fullShare ((dats m 0 c).after 6 t)
    ∗ owns (c : Thread nD τ) (stage7 t) fullShare ((dats m 0 c).after 7 t)
    ∗ owns (c : Thread nD τ) (stage8 t) fullShare ((dats m 0 c).after 8 t)
    ∗ owns (c : Thread nD τ) (stage9 t) fullShare ((dats m 0 c).after 9 t)
    ∗ owns (c : Thread nD τ) (stage10 t) fullShare ((dats m 0 c).after 10 t))

set_option maxHeartbeats 4000000 in
/-- The body at any point: at point 0 the scratch buffer is handed over at anything and taken back at the segment
    numbers, at a later point it holds them throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl,
    after_0, after_1, after_2, after_3, after_4, after_5, after_6, after_7, after_8, after_9, after_10]
  rw [show (dats m 0 c).Φ t.succ = held m c (t.val + 1) t.isLt from rfl, held_succ, held_castSucc m c t]
  by_cases hz : t.val = 0
  · rw [held_zero m c _ _ hz, region_rest]
    have hs : segs m c = segOf (iblk m c 1 t) := by unfold segs; rw [marks_const m c t]
    unfold outAt; rw [hs]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_run_first (grid0.coords t)  _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) c ((firstPoint_iff t).mpr hz) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    iintro ⟨H0, H1, H2, H3, H4, H5, H6, H7, H8, H9, H10, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [held_pos m c _ _ hz]
    unfold outAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_run_later (grid0.coords t)  _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) c (fun h => hz ((firstPoint_iff t).mp h)) (segs m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    iintro ⟨H0, H1, H2, H3, H4, H5, H6, H7, H8, H9, H10, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t` is the body at its staging buffers. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region hands over what is held before the first point, -/
theorem hin (c : Dev nD) : Pipeline.ΦA spec0 c ⊢ (dats m 0 c).Φ 0 := by
  rw [show (dats m 0 c).Φ 0 = held m c 0 (Nat.zero_le _) from rfl, held_zero m c 0 _ rfl]

/-- and gets it back, the segment numbers forgotten, after the last. -/
theorem hout (c : Dev nD) : (dats m 0 c).Φ (Fin.last cfg0.N) ⊢ Pipeline.ΦA spec0 c := by
  rw [show (dats m 0 c).Φ (Fin.last cfg0.N) = held m c (Fin.last cfg0.N).val (Nat.le_of_lt_succ (Fin.last cfg0.N).isLt) from rfl,
    held_pos m c _ _ (by rw [Fin.val_last]; have : cfg0.N = 8 := N_0; omega), region_rest]
  iintro ⟨HS0, Hg⟩
  isplitl [HS0]
  · iexists _
    iexact HS0
  · iexact Hg

set_option backward.isDefEq.respectTransparency.types false in
/-- The whole program's run: it ends with every array at what the proof data says, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The program ends with its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Frames.lean ====
module

public import proofs.«01_k».proof.Defs
public import proofs.«01_k».proof.Proof.WordRun
public import proofs.«01_k».proof.Proof.KernelRun
public import proofs.«01_k».proof.Proof.Gen.ReferenceIdeal.Run

/-! The frames of the kernel, of its ideal program and of the reference. -/

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The kernel terminates, keeps its arguments and leaves every semaphore at zero. -/
theorem kernel_frame : Cert.quiescent_Kernel := fun m ρ _ => Cert.Kernel.Hand.frame m ρ

/-- So does the kernel read over the extended reals. -/
theorem ideal_frame : Cert.quiescent_KernelIdeal := fun m ρ _ => Cert.KernelIdeal.Hand.frame m ρ

/-- So does the reference, which has no semaphore. -/
theorem reference_frame : Cert.quiescent_ReferenceIdeal := fun m ρ _ =>
  (θ_run _ _ _).mono (fun r h => ⟨fun c => (h c).2, Idealize.ShloMosaic.sem_eq_zero_of_no_sems (by decide) r.2⟩)
    (Cert.ReferenceIdeal.Value.run m ρ)

end Cert.Proof

end
-- ==== Proof.Pairs.lean ====
module

public import proofs.«01_k».proof.Proof.Frames
public import Idealize.ShloMosaic.Lib.Pointwise
public import Idealize.ShloMosaic.Lib.Routing.OpsPair

/-! Scatters and gathers addressed by pairs (batch, segment): which element an update lands at, and
the element a gather reads. -/

@[expose] public section

noncomputable section

namespace Cert.Proof

open Idealize.ShloMosaic Cert.ReferenceIdeal

/-- The pairs hold the batch and the segment of the position. -/
def Addressed (idx : IVec S8x2048x2 32) (sg : Fin 8 → Fin 2048 → Fin 2048) : Prop :=
  ∀ (b : Fin 8) (j : Fin 2048), (idx (ix3 b j 0)).toInt = (b.val : Int) ∧ (idx (ix3 b j 1)).toInt = ((sg b j).val : Int)

section

variable (idx : IVec S8x2048x2 32) (sg : Fin 8 → Fin 2048 → Fin 2048) (h : Addressed idx sg)
include h

/-- Where an update of a table of scalars lands. -/
theorem lands2 (b' : Fin 8) (j : Fin 2048) (b : Fin 8) (s : Fin 2048) :
    scatter_S8x2048_S8x2048x2_S8x2048_n_01_01_2.resultIdx? (ix2 b' j) idx = some (ix2 b s) ↔ b' = b ∧ sg b' j = s := by
  rw [Routing.resultIdx?_eq_some, Fin.ext_iff, Fin.ext_iff]
  have e0 : scatter_S8x2048_S8x2048x2_S8x2048_n_01_01_2.start (ix2 b' j) idx 0 = (b'.val : Int) := by
    unfold ScatterDims.start
    rw [dif_pos (by decide), ← (h b' j).1]
    congr 2; funext a; fin_cases a <;> rfl
  have e1 : scatter_S8x2048_S8x2048x2_S8x2048_n_01_01_2.start (ix2 b' j) idx 1 = ((sg b' j).val : Int) := by
    unfold ScatterDims.start
    rw [dif_pos (by decide), ← (h b' j).2]
    congr 2; funext a; fin_cases a <;> rfl
  have w0 : scatter_S8x2048_S8x2048x2_S8x2048_n_01_01_2.window (ix2 b' j) 0 = 0 := rfl
  have w1 : scatter_S8x2048_S8x2048x2_S8x2048_n_01_01_2.window (ix2 b' j) 1 = 0 := rfl
  constructor
  · intro q
    have q0 := q 0
    have q1 := q 1
    rw [e0, w0] at q0
    rw [e1, w1] at q1
    change _ = (b.val : Int) at q0
    change _ = (s.val : Int) at q1
    omega
  · rintro ⟨q0, q1⟩ a
    match a with
    | ⟨0, _⟩ => rw [show (⟨0, _⟩ : Fin S8x2048.rank) = 0 from rfl, e0, w0]; show _ = (b.val : Int); omega
    | ⟨1, _⟩ => rw [show (⟨1, _⟩ : Fin S8x2048.rank) = 1 from rfl, e1, w1]; show _ = (s.val : Int); omega

/-- The sum scattered to a segment: the updates of its positions. -/
theorem scatter2 (x : FVec Ideal S8x2048 .f32) (u : FVec Ideal S8x2048 .f32) (b : Fin 8) (s : Fin 2048) :
    Host.scatterAdd scatter_S8x2048_S8x2048x2_S8x2048_n_01_01_2 x idx u (ix2 b s)
      = x (ix2 b s) + ∑ j : Fin 2048, if sg b j = s then u (ix2 b j) else 0 := by
  show x (ix2 b s) + _ = _
  congr 1
  rw [← Finset.sum_filter]
  symm
  refine Finset.sum_nbij (fun j => ix2 b j) ?_ ?_ ?_ ?_
  · intro j hj
    simp only [Finset.mem_filter, Finset.mem_univ, true_and] at hj ⊢
    exact (lands2 idx sg h b j b s).2 ⟨rfl, hj⟩
  · intro j _ j' _ e
    exact congrFun e 1
  · intro k hk
    simp only [Finset.coe_filter, Finset.mem_univ, true_and, Set.mem_setOf_eq] at hk
    obtain ⟨b', j, rfl⟩ : ∃ b' j, k = ix2 b' j := ⟨k 0, k 1, (ix2_eta k).symm⟩
    obtain ⟨rfl, q⟩ := (lands2 idx sg h b' j b s).1 hk
    exact ⟨j, by simpa using q, rfl⟩
  · intro j _; rfl

/-- The pair scatter over a table of rows of `n` entries. -/
abbrev pairDims3 (n : ℕ) (wf : ScatterDims.WF ⟨3, ![8, 2048, n]⟩ S8x2048x2 ⟨3, ![8, 2048, n]⟩ [2] [0, 1] [0, 1] 2) :
    ScatterDims ⟨3, ![8, 2048, n]⟩ S8x2048x2 ⟨3, ![8, 2048, n]⟩ := ⟨[2], [0, 1], [0, 1], 2, wf⟩

/-- Where an update of a table of rows lands. -/
theorem lands3 {n : ℕ} (wf) (b' : Fin 8) (j : Fin 2048) (d' : Fin n) (b : Fin 8) (s : Fin 2048) (d : Fin n) :
    (pairDims3 n wf).resultIdx? (ix3 b' j d') idx = some (ix3 b s d) ↔ b' = b ∧ sg b' j = s ∧ d' = d := by
  rw [Routing.resultIdx?_eq_some, Fin.ext_iff, Fin.ext_iff, Fin.ext_iff]
  have e0 : (pairDims3 n wf).start (ix3 b' j d') idx 0 = (b'.val : Int) := by
    unfold ScatterDims.start
    rw [dif_pos (show (0 : Fin 3) ∈ ([0, 1] : List (Fin 3)) by decide), ← (h b' j).1]
    congr 2; funext a; fin_cases a <;> rfl
  have e1 : (pairDims3 n wf).start (ix3 b' j d') idx 1 = ((sg b' j).val : Int) := by
    unfold ScatterDims.start
    rw [dif_pos (show (1 : Fin 3) ∈ ([0, 1] : List (Fin 3)) by decide), ← (h b' j).2]
    congr 2; funext a; fin_cases a <;> rfl
  have e2 : (pairDims3 n wf).start (ix3 b' j d') idx 2 = 0 := rfl
  have w0 : (pairDims3 n wf).window (ix3 b' j d') 0 = 0 := rfl
  have w1 : (pairDims3 n wf).window (ix3 b' j d') 1 = 0 := rfl
  have w2 : (pairDims3 n wf).window (ix3 b' j d') 2 = d'.val := rfl
  constructor
  · intro q
    have q0 := q 0
    have q1 := q 1
    have q2 := q 2
    rw [e0, w0] at q0
    rw [e1, w1] at q1
    rw [e2, w2] at q2
    change _ = (b.val : Int) at q0
    change _ = (s.val : Int) at q1
    change _ = (d.val : Int) at q2
    omega
  · rintro ⟨q0, q1, q2⟩ a
    match a with
    | ⟨0, _⟩ => rw [show (⟨0, _⟩ : Fin 3) = 0 from rfl, e0, w0]; show _ = (b.val : Int); omega
    | ⟨1, _⟩ => rw [show (⟨1, _⟩ : Fin 3) = 1 from rfl, e1, w1]; show _ = (s.val : Int); omega
    | ⟨2, _⟩ => rw [show (⟨2, _⟩ : Fin 3) = 2 from rfl, e2, w2]; show _ = (d.val : Int); omega

/-- The rows scattered to a segment: the updates of its positions. -/
theorem scatter3 {n : ℕ} (wf) (x u : FVec Ideal ⟨3, ![8, 2048, n]⟩ .f32) (b : Fin 8) (s : Fin 2048) (d : Fin n) :
    Host.scatterAdd (pairDims3 n wf) x idx u (ix3 b s d)
      = x (ix3 b s d) + ∑ j : Fin 2048, if sg b j = s then u (ix3 b j d) else 0 := by
  refine congrArg (x (ix3 b s d) + ·) ?_
  rw [← Finset.sum_filter]
  symm
  refine Finset.sum_nbij (fun j => ix3 b j d) ?_ ?_ ?_ ?_
  · intro j hj
    simp only [Finset.mem_filter, Finset.mem_univ, true_and] at hj ⊢
    exact (lands3 idx sg h wf b j d b s d).2 ⟨rfl, hj, rfl⟩
  · intro j _ j' _ e
    exact congrFun e 1
  · intro k hk
    simp only [Finset.coe_filter, Finset.mem_univ, true_and, Set.mem_setOf_eq] at hk
    obtain ⟨b', j, d', rfl⟩ : ∃ b' j d', k = ix3 b' j d' := ⟨k 0, k 1, k 2, (ix3_eta k).symm⟩
    obtain ⟨rfl, q, rfl⟩ := (lands3 idx sg h wf b' j d' b s d).1 hk
    exact ⟨j, by simpa using q, rfl⟩
  · intro j _; rfl

/-- Where an update of a table of heads lands. -/
theorem lands4 (b' : Fin 8) (j : Fin 2048) (g' : Fin 8) (d' : Fin 96) (b : Fin 8) (s : Fin 2048) (g : Fin 8) (d : Fin 96) :
    scatter_S8x2048x8x96_S8x2048x2_S8x2048x8x96_23_01_01_2.resultIdx? (ix4 b' j g' d') idx = some (ix4 b s g d)
      ↔ b' = b ∧ sg b' j = s ∧ g' = g ∧ d' = d := by
  rw [Routing.resultIdx?_eq_some, Fin.ext_iff, Fin.ext_iff, Fin.ext_iff, Fin.ext_iff]
  have e0 : scatter_S8x2048x8x96_S8x2048x2_S8x2048x8x96_23_01_01_2.start (ix4 b' j g' d') idx 0 = (b'.val : Int) := by
    unfold ScatterDims.start
    rw [dif_pos (by decide), ← (h b' j).1]
    congr 2; funext a; fin_cases a <;> rfl
  have e1 : scatter_S8x2048x8x96_S8x2048x2_S8x2048x8x96_23_01_01_2.start (ix4 b' j g' d') idx 1 = ((sg b' j).val : Int) := by
    unfold ScatterDims.start
    rw [dif_pos (by decide), ← (h b' j).2]
    congr 2; funext a; fin_cases a <;> rfl
  have e2 : scatter_S8x2048x8x96_S8x2048x2_S8x2048x8x96_23_01_01_2.start (ix4 b' j g' d') idx 2 = 0 := rfl
  have e3 : scatter_S8x2048x8x96_S8x2048x2_S8x2048x8x96_23_01_01_2.start (ix4 b' j g' d') idx 3 = 0 := rfl
  have w0 : scatter_S8x2048x8x96_S8x2048x2_S8x2048x8x96_23_01_01_2.window (ix4 b' j g' d') 0 = 0 := rfl
  have w1 : scatter_S8x2048x8x96_S8x2048x2_S8x2048x8x96_23_01_01_2.window (ix4 b' j g' d') 1 = 0 := rfl
  have w2 : scatter_S8x2048x8x96_S8x2048x2_S8x2048x8x96_23_01_01_2.window (ix4 b' j g' d') 2 = g'.val := rfl
  have w3 : scatter_S8x2048x8x96_S8x2048x2_S8x2048x8x96_23_01_01_2.window (ix4 b' j g' d') 3 = d'.val := rfl
  constructor
  · intro q
    have q0 := q 0
    have q1 := q 1
    have q2 := q 2
    have q3 := q 3
    rw [e0, w0] at q0
    rw [e1, w1] at q1
    rw [e2, w2] at q2
    rw [e3, w3] at q3
    change _ = (b.val : Int) at q0
    change _ = (s.val : Int) at q1
    change _ = (g.val : Int) at q2
    change _ = (d.val : Int) at q3
    omega
  · rintro ⟨q0, q1, q2, q3⟩ a
    match a with
    | ⟨0, _⟩ => rw [show (⟨0, _⟩ : Fin 4) = 0 from rfl, e0, w0]; show _ = (b.val : Int); omega
    | ⟨1, _⟩ => rw [show (⟨1, _⟩ : Fin 4) = 1 from rfl, e1, w1]; show _ = (s.val : Int); omega
    | ⟨2, _⟩ => rw [show (⟨2, _⟩ : Fin 4) = 2 from rfl, e2, w2]; show _ = (g.val : Int); omega
    | ⟨3, _⟩ => rw [show (⟨3, _⟩ : Fin 4) = 3 from rfl, e3, w3]; show _ = (d.val : Int); omega

/-- The heads scattered to a segment: the updates of its positions. -/
theorem scatter4 (x u : FVec Ideal S8x2048x8x96 .f32) (b : Fin 8) (s : Fin 2048) (g : Fin 8) (d : Fin 96) :
    Host.scatterAdd scatter_S8x2048x8x96_S8x2048x2_S8x2048x8x96_23_01_01_2 x idx u (ix4 b s g d)
      = x (ix4 b s g d) + ∑ j : Fin 2048, if sg b j = s then u (ix4 b j g d) else 0 := by
  show x (ix4 b s g d) + _ = _
  congr 1
  rw [← Finset.sum_filter]
  symm
  refine Finset.sum_nbij (fun j => ix4 b j g d) ?_ ?_ ?_ ?_
  · intro j hj
    simp only [Finset.mem_filter, Finset.mem_univ, true_and] at hj ⊢
    exact (lands4 idx sg h b j g d b s g d).2 ⟨rfl, hj, rfl, rfl⟩
  · intro j _ j' _ e
    exact congrFun e 1
  · intro k hk
    simp only [Finset.coe_filter, Finset.mem_univ, true_and, Set.mem_setOf_eq] at hk
    obtain ⟨b', j, g', d', rfl⟩ : ∃ b' j g' d', k = ix4 b' j g' d' := ⟨k 0, k 1, k 2, k 3, (ix4_eta k).symm⟩
    obtain ⟨rfl, q, rfl, rfl⟩ := (lands4 idx sg h b' j g' d' b s g d).1 hk
    exact ⟨j, by simpa using q, rfl⟩
  · intro j _; rfl

/-- A gathered row of head values is the row of the position's segment. -/
theorem gather3 (x : FVec Ideal S8x2048x8 .f32) (b : Fin 8) (j : Fin 2048) (g : Fin 8) :
    Host.gather gather_S8x2048x8_S8x2048x2_S8x2048x8_2_01_n_n_01_2_118 x idx (ix3 b j g) = x (ix3 b (sg b j) g) := by
  show x (gather_S8x2048x8_S8x2048x2_S8x2048x8_2_01_n_n_01_2_118.operandIdx (ix3 b j g) idx) = _
  congr 1
  have e0 : gather_S8x2048x8_S8x2048x2_S8x2048x8_2_01_n_n_01_2_118.start (ix3 b j g) idx 0 = b.val := by
    unfold GatherDims.start
    rw [dif_pos (by decide)]
    have : gather_S8x2048x8_S8x2048x2_S8x2048x8_2_01_n_n_01_2_118.siIdx (ix3 b j g) ⟨0, by decide⟩ = ix3 b j 0 := by
      funext a; fin_cases a <;> rfl
    show min (idx (gather_S8x2048x8_S8x2048x2_S8x2048x8_2_01_n_n_01_2_118.siIdx (ix3 b j g) ⟨0, by decide⟩)).toInt.toNat (8 - 1) = _
    rw [this, (h b j).1]
    omega
  have e1 : gather_S8x2048x8_S8x2048x2_S8x2048x8_2_01_n_n_01_2_118.start (ix3 b j g) idx 1 = (sg b j).val := by
    unfold GatherDims.start
    rw [dif_pos (by decide)]
    have : gather_S8x2048x8_S8x2048x2_S8x2048x8_2_01_n_n_01_2_118.siIdx (ix3 b j g) ⟨1, by decide⟩ = ix3 b j 1 := by
      funext a; fin_cases a <;> rfl
    show min (idx (gather_S8x2048x8_S8x2048x2_S8x2048x8_2_01_n_n_01_2_118.siIdx (ix3 b j g) ⟨1, by decide⟩)).toInt.toNat (2048 - 1) = _
    rw [this, (h b j).2]
    omega
  funext a
  match a with
  | ⟨0, _⟩ =>
    apply Fin.ext
    show gather_S8x2048x8_S8x2048x2_S8x2048x8_2_01_n_n_01_2_118.start (ix3 b j g) idx 0 + 0 + 0 = b.val
    rw [e0]; rfl
  | ⟨1, _⟩ =>
    apply Fin.ext
    show gather_S8x2048x8_S8x2048x2_S8x2048x8_2_01_n_n_01_2_118.start (ix3 b j g) idx 1 + 0 + 0 = (sg b j).val
    rw [e1]; rfl
  | ⟨2, _⟩ =>
    apply Fin.ext
    show 0 + 0 + g.val = g.val
    omega

/-- A gathered row of heads is the row of the position's segment. -/
theorem gather4 (x : FVec Ideal S8x2048x8x96 .f32) (b : Fin 8) (j : Fin 2048) (g : Fin 8) (e : Fin 96) :
    Host.gather gather_S8x2048x8x96_S8x2048x2_S8x2048x8x96_23_01_n_n_01_2_11896 x idx (ix4 b j g e)
      = x (ix4 b (sg b j) g e) := by
  show x (gather_S8x2048x8x96_S8x2048x2_S8x2048x8x96_23_01_n_n_01_2_11896.operandIdx (ix4 b j g e) idx) = _
  congr 1
  have e0 : gather_S8x2048x8x96_S8x2048x2_S8x2048x8x96_23_01_n_n_01_2_11896.start (ix4 b j g e) idx 0 = b.val := by
    unfold GatherDims.start
    rw [dif_pos (by decide)]
    have : gather_S8x2048x8x96_S8x2048x2_S8x2048x8x96_23_01_n_n_01_2_11896.siIdx (ix4 b j g e) ⟨0, by decide⟩ = ix3 b j 0 := by
      funext a; fin_cases a <;> rfl
    show min (idx (gather_S8x2048x8x96_S8x2048x2_S8x2048x8x96_23_01_n_n_01_2_11896.siIdx (ix4 b j g e) ⟨0, by decide⟩)).toInt.toNat (8 - 1) = _
    rw [this, (h b j).1]
    omega
  have e1 : gather_S8x2048x8x96_S8x2048x2_S8x2048x8x96_23_01_n_n_01_2_11896.start (ix4 b j g e) idx 1 = (sg b j).val := by
    unfold GatherDims.start
    rw [dif_pos (by decide)]
    have : gather_S8x2048x8x96_S8x2048x2_S8x2048x8x96_23_01_n_n_01_2_11896.siIdx (ix4 b j g e) ⟨1, by decide⟩ = ix3 b j 1 := by
      funext a; fin_cases a <;> rfl
    show min (idx (gather_S8x2048x8x96_S8x2048x2_S8x2048x8x96_23_01_n_n_01_2_11896.siIdx (ix4 b j g e) ⟨1, by decide⟩)).toInt.toNat (2048 - 1) = _
    rw [this, (h b j).2]
    omega
  funext a
  match a with
  | ⟨0, _⟩ =>
    apply Fin.ext
    show gather_S8x2048x8x96_S8x2048x2_S8x2048x8x96_23_01_n_n_01_2_11896.start (ix4 b j g e) idx 0 + 0 + 0 = b.val
    rw [e0]; rfl
  | ⟨1, _⟩ =>
    apply Fin.ext
    show gather_S8x2048x8x96_S8x2048x2_S8x2048x8x96_23_01_n_n_01_2_11896.start (ix4 b j g e) idx 1 + 0 + 0 = (sg b j).val
    rw [e1]; rfl
  | ⟨2, _⟩ =>
    apply Fin.ext
    show 0 + 0 + g.val = g.val
    omega
  | ⟨3, _⟩ =>
    apply Fin.ext
    show 0 + 0 + e.val = e.val
    omega

end

end Cert.Proof

end
-- ==== Proof.Segments.lean ====
module

public import proofs.«01_k».proof.Proof.Pairs
public import proofs.«01_k».proof.Proof.Gen.ReferenceIdeal.Read
public import Idealize.ShloMosaic.Lib.Routing.Ops

/-! The segment of a position, and the reference's computation of it. -/

@[expose] public section

noncomputable section

namespace Cert.Proof

open Idealize.ShloMosaic Cert.ReferenceIdeal Cert.ReferenceIdeal.Read

/-- Whether position `i` begins a segment, as a number; zero past the end. -/
def mark (w : Fin 2048 → BitVec 32) (i : ℕ) : ℕ := if h : i < 2048 then (if w ⟨i, h⟩ = 0#32 then 0 else 1) else 0

/-- A mark counts at most one. -/
theorem mark_le (w : Fin 2048 → BitVec 32) (i : ℕ) : mark w i ≤ 1 := by
  unfold mark; split
  · split <;> omega
  · omega

/-- The segment of position `j`: the marks at positions `1` to `j`. -/
def segNat (w : Fin 2048 → BitVec 32) (j : ℕ) : ℕ := ∑ i ∈ Finset.range j, mark w (i + 1)

/-- Counting the marks up to `j` counts the one at position zero too. -/
theorem sum_mark (w : Fin 2048 → BitVec 32) (j : ℕ) : ∑ i ∈ Finset.range (j + 1), mark w i = segNat w j + mark w 0 :=
  Finset.sum_range_succ' _ _

/-- The first position is in segment zero. -/
theorem segNat_zero (w : Fin 2048 → BitVec 32) : segNat w 0 = 0 := rfl

/-- The next position's segment. -/
theorem segNat_succ (w : Fin 2048 → BitVec 32) (j : ℕ) : segNat w (j + 1) = segNat w j + mark w (j + 1) :=
  Finset.sum_range_succ _ _

/-- A segment is numbered at most its positions. -/
theorem segNat_le (w : Fin 2048 → BitVec 32) (j : ℕ) : segNat w j ≤ j := by
  induction j with
  | zero => exact le_refl _
  | succ j ih => rw [segNat_succ]; have := mark_le w (j + 1); omega

/-- Segments are numbered in order. -/
theorem segNat_mono (w : Fin 2048 → BitVec 32) : Monotone (segNat w) :=
  monotone_nat_of_le_succ fun j => by rw [segNat_succ]; omega

/-- Every number up to a position's segment is the segment of some position up to it. -/
theorem segNat_onto (w : Fin 2048 → BitVec 32) (s j : ℕ) (h : s ≤ segNat w j) : ∃ i ≤ j, segNat w i = s := by
  induction j with
  | zero => exact ⟨0, le_refl _, by rw [segNat_zero] at *; omega⟩
  | succ j ih =>
    by_cases q : s ≤ segNat w j
    · obtain ⟨i, hi, e⟩ := ih q
      exact ⟨i, by omega, e⟩
    · refine ⟨j + 1, le_refl _, ?_⟩
      rw [segNat_succ] at *
      have := mark_le w (j + 1)
      omega

/-- The segment of a position, as a position. -/
def seg (w : Fin 2048 → BitVec 32) (j : Fin 2048) : Fin 2048 := ⟨segNat w j, (segNat_le w j).trans_lt j.isLt⟩

/-- The marks of batch row `b`. -/
def row (x1 : IVec S8x2048 32) (b : Fin 8) (j : Fin 2048) : BitVec 32 := x1 (ix2 b j)

/-- A running count along the rows of a table, row by row. -/
theorem running (x : IVec S8x2048 32) (f : ℕ → ℕ) (b : Fin 8) (hx : ∀ i : Fin 2048, x (ix2 b i) = BitVec.ofNat 32 (f i.val))
    (init : IVec S_ 32) (hinit : init = fun _ => 0#32) (h hu) (j : Fin 2048) :
    Host.reduceWindow IntOp.addi ![1, 2048] ![1, 1] ![0, 2047] ![0, 0] x init (t := S8x2048) h hu (ix2 b j)
      = BitVec.ofNat 32 (∑ i ∈ Finset.range (j.val + 1), f i) := by
  have h1 : (Routing.shape2 1 2048).ReduceWindows (![1, 2048] : Fin 2 → Nat) ![1, 1] ![0, 2047] ![0, 0] (Routing.shape2 1 2048) := by
    decide
  have e := Routing.cumsum2 (N := 2048) (Nm1 := 2047) rfl (fun i => x (ix2 b (i 1))) f hx init (by rw [hinit]) h1 hu j
  have es : ∑ i ∈ Finset.range (j.val + 1), f i = ((List.range (j.val + 1)).map f).sum := rfl
  rw [es, ← e]
  unfold Host.reduceWindow
  refine congrArg (fun g => List.foldl g _ _) ?_
  funext v n
  have hn : (({ rank := 2, size := ![1, 2048] } : Shape).rowMajor.symm n 0).val < 1 := (({ rank := 2, size := ![1, 2048] } : Shape).rowMajor.symm n 0).isLt
  have hb := b.isLt
  refine congrArg (IntOp.addi v) ?_
  dsimp only
  split
  · next q =>
    have q1 := q 1
    rw [dif_pos]
    · refine congrArg x (funext fun a => ?_)
      match a with
      | ⟨0, _⟩ =>
        apply Fin.ext
        show b.val * 1 + (({ rank := 2, size := ![1, 2048] } : Shape).rowMajor.symm n 0).val - 0 = b.val
        omega
      | ⟨1, _⟩ => rfl
    · intro a
      match a with
      | ⟨0, _⟩ =>
        show 0 ≤ 0 * 1 + (({ rank := 2, size := ![1, 2048] } : Shape).rowMajor.symm n 0).val
          ∧ 0 * 1 + (({ rank := 2, size := ![1, 2048] } : Shape).rowMajor.symm n 0).val - 0 < 1
        omega
      | ⟨1, _⟩ => exact q1
  · next q =>
    rw [dif_neg]
    intro q'
    have q1 := q' 1
    refine q fun a => ?_
    match a with
    | ⟨0, _⟩ =>
      show 0 ≤ b.val * 1 + (({ rank := 2, size := ![1, 2048] } : Shape).rowMajor.symm n 0).val
        ∧ b.val * 1 + (({ rank := 2, size := ![1, 2048] } : Shape).rowMajor.symm n 0).val - 0 < 8
      omega
    | ⟨1, _⟩ => exact q1

/-- The reference's segment numbers, as words. -/
theorem seg_word (x1 : IVec S8x2048 32) (b : Fin 8) (j : Fin 2048) :
    val_main_v6 (F := Ideal) x1 (ix2 b j) = BitVec.ofNat 32 (segNat (row x1 b) j) := by
  have hx : ∀ i : Fin 2048, val_main_v2 (F := Ideal) x1 (ix2 b i) = BitVec.ofNat 32 (mark (row x1 b) i.val) := by
    intro i
    rw [show mark (row x1 b) i.val = if row x1 b i = 0#32 then 0 else 1 from dif_pos i.isLt]
    pointwise [val_main_v2, val_main_v1, val_main_v0, val_main_c]
    by_cases q : row x1 b i = 0#32
    · rw [if_pos q, show x1 (ix2 b i) = 0#32 from q]; rfl
    · rw [if_neg q, show IntOp.cmpi CmpIPredicate.ne (x1 (ix2 b i)) 0#32 = 1#1 from by
        simp only [IntOp.cmpi]; rw [show (x1 (ix2 b i) != 0#32) = true from bne_iff_ne.2 q]; rfl]; rfl
  pointwise [val_main_v6, val_main_v5, val_main_v4]
  have e : val_main_v3 (F := Ideal) x1 (ix2 b j) = BitVec.ofNat 32 (segNat (row x1 b) j + mark (row x1 b) 0) := by
    unfold val_main_v3
    rw [running _ _ b hx val_main_call0_call0_v0 (by funext i; rfl), sum_mark]
  rw [e, hx 0]
  exact (BitVec.sub_eq_iff_eq_add).2 (by rw [BitVec.ofNat_add]; rfl)

/-- The reference's scatter addresses are the segments. -/
theorem addressed (x1 : IVec S8x2048 32) : Addressed (val_main_v24 (F := Ideal) x1) (fun b => seg (row x1 b)) := by
  intro b j
  constructor
  · pointwise [val_main_v24, val_main_v22, val_main_v21, val_main_v15, val_main_v12, val_main_v14, val_main_v8, val_main_v11, val_main_v13, val_main_v7, val_main_c_1, val_main_c_2]
    rw [Routing.wrap_of_lt _ _ (by simp; omega)]
    exact WordCmp.toInt_ofNat_of_lt (w := 32) (by have := b.isLt; omega)
  · pointwise [val_main_v24, val_main_v23, val_main_v20, val_main_v17, val_main_v19, val_main_v16, val_main_v18, val_main_c_3, val_main_c_4]
    have := (segNat_le (row x1 b) j).trans_lt j.isLt
    rw [seg_word, Routing.wrap_of_lt _ _ (by simp; omega)]
    exact WordCmp.toInt_ofNat_of_lt (w := 32) (by omega)

end Cert.Proof

end
-- ==== Proof.Model.lean ====
module

public import proofs.«01_k».proof.Proof.Frames

/-! The computation over the real numbers, for one batch row: positions are pooled by segment, a
segment's query attends to its own positions, and the result does not depend on the shift of the
exponentials. -/

@[expose] public section

noncomputable section

namespace Cert.Proof

open Idealize.ShloMosaic

/-- The inputs of one batch row: the bytes, each position's segment, weights (output first) and biases; real where the precondition asks it. -/
structure Inp where
  x : Fin 2048 → Fin 768 → ℝ
  sg : Fin 2048 → Fin 2048
  wq : Fin 768 → Fin 768 → ℝ
  wk : Fin 768 → Fin 768 → ℝ
  wv : Fin 768 → Fin 768 → EReal
  wo : Fin 768 → Fin 768 → EReal
  bq : Fin 768 → ℝ
  bk : Fin 768 → ℝ
  bv : Fin 768 → EReal
  bo : Fin 768 → EReal

/-- The column of coordinate `e` of head `g`. -/
def lane (g : Fin 8) (e : Fin 96) : Fin 768 := ⟨g.val * 96 + e.val, by omega⟩

/-- The head of a column. -/
def headOf (d : Fin 768) : Fin 8 := ⟨d.val / 96, by omega⟩

/-- The scale of the logits. -/
def scale : ℝ := (Ideal.ofBits .f32 0x3DD105EC#32).toReal

/-- The least denominator. -/
def tiny : ℝ := (Ideal.ofBits .f32 0x0DA24260#32).toReal

/-- The scale of the logits is a real number. -/
theorem scale_coe : Ideal.ofBits .f32 0x3DD105EC#32 = (scale : EReal) := by
  unfold scale
  simp [Ideal.ofBits, Ideal.ieee, -EReal.coe_mul]

/-- The least denominator is a real number. -/
theorem tiny_coe : Ideal.ofBits .f32 0x0DA24260#32 = (tiny : EReal) := by
  unfold tiny
  simp [Ideal.ofBits, Ideal.ieee, -EReal.coe_mul]

/-- The least denominator is positive. -/
theorem tiny_pos : 0 < tiny := by
  unfold tiny
  simp [Ideal.ofBits, Ideal.ieee, -EReal.coe_mul]

/-- The least denominator is at most one. -/
theorem tiny_le_one : tiny ≤ 1 := by
  unfold tiny
  simp [Ideal.ofBits, Ideal.ieee, -EReal.coe_mul]
  norm_num

/-- A nonnegative real factor may be multiplied into a sum, whatever the summands. -/
theorem mul_sum_real {ι : Type*} (r : ℝ) (hr : 0 ≤ r) (t : Finset ι) (f : ι → EReal) : (r : EReal) * ∑ i ∈ t, f i = ∑ i ∈ t, (r : EReal) * f i := by
  classical
  induction t using Finset.induction_on with
  | empty => simp
  | insert a t ha ih =>
    rw [Finset.sum_insert ha, Finset.sum_insert ha, EReal.left_distrib_of_nonneg_of_ne_top (EReal.coe_nonneg.2 hr) (EReal.coe_ne_top r), ih]

namespace Inp

variable (I : Inp)

/-- The number of positions of a segment. -/
def cnt (s : Fin 2048) : ℝ := ∑ j, if I.sg j = s then 1 else 0
/-- The sum of a segment's bytes. -/
def tot (s : Fin 2048) (d : Fin 768) : ℝ := ∑ j, if I.sg j = s then I.x j d else 0
/-- The mean of a segment's bytes. -/
def mean (s : Fin 2048) (d : Fin 768) : ℝ := I.tot s d / max (I.cnt s) 1
/-- A segment's query. -/
def qry (s : Fin 2048) (o : Fin 768) : ℝ := (∑ d, I.mean s d * I.wq o d) + I.bq o
/-- A position's key. -/
def key (j : Fin 2048) (o : Fin 768) : ℝ := (∑ d, I.x j d * I.wk o d) + I.bk o
/-- A position's value. -/
def val (j : Fin 2048) (o : Fin 768) : EReal := (∑ d, (I.x j d : EReal) * I.wv o d) + I.bv o
/-- A position's logit, per head. -/
def lgt (j : Fin 2048) (g : Fin 8) : ℝ := (∑ e, I.qry (I.sg j) (lane g e) * I.key j (lane g e)) * scale
/-- The softmax denominator of a segment under a shift. -/
def den (M : ℝ) (s : Fin 2048) (g : Fin 8) : ℝ := ∑ j, if I.sg j = s then Real.exp (I.lgt j g - M) else 0
/-- The softmax numerator of a segment under a shift. -/
def num (M : ℝ) (s : Fin 2048) (d : Fin 768) : EReal :=
  ∑ j, if I.sg j = s then ((Real.exp (I.lgt j (headOf d) - M) : ℝ) : EReal) * I.val j d else 0
/-- The attended values of a segment. -/
def attn (M : ℝ) (s : Fin 2048) (d : Fin 768) : EReal := I.num M s d * ((1 / max (I.den M s (headOf d)) tiny : ℝ) : EReal)
/-- The output projection. -/
def proj (a : Fin 768 → EReal) (c : Fin 768) : EReal := (∑ d, a d * I.wo c d) + I.bo c

/-- A count is not negative. -/
theorem cnt_nonneg (s : Fin 2048) : 0 ≤ I.cnt s :=
  Finset.sum_nonneg fun j _ => by split <;> norm_num

/-- A position's segment has at least one position. -/
theorem one_le_cnt (j : Fin 2048) : 1 ≤ I.cnt (I.sg j) := by
  have h := Finset.single_le_sum (f := fun i => if I.sg i = I.sg j then (1 : ℝ) else 0) (s := Finset.univ)
    (fun i _ => by split <;> norm_num) (Finset.mem_univ j)
  rwa [if_pos rfl] at h

/-- A segment with a positive count has a position. -/
theorem exists_of_cnt_pos (s : Fin 2048) (h : 0 < I.cnt s) : ∃ j, I.sg j = s := by
  by_contra q
  rw [cnt, Finset.sum_eq_zero fun j _ => if_neg fun e => q ⟨j, e⟩] at h
  exact lt_irrefl _ h

/-- The count is zero or positive as the segment is empty or not. -/
theorem cnt_pos_iff (s : Fin 2048) : 0 < I.cnt s ↔ ∃ j, I.sg j = s :=
  ⟨I.exists_of_cnt_pos s, fun ⟨j, h⟩ => h ▸ lt_of_lt_of_le one_pos (I.one_le_cnt j)⟩

/-- Another shift scales the denominator. -/
theorem den_shift (M M' : ℝ) (s : Fin 2048) (g : Fin 8) : I.den M s g = Real.exp (M' - M) * I.den M' s g := by
  unfold den
  rw [Finset.mul_sum]
  refine Finset.sum_congr rfl fun j _ => ?_
  split
  · rw [← Real.exp_add]; congr 1; ring
  · simp

/-- Another shift scales the numerator alike. -/
theorem num_shift (M M' : ℝ) (s : Fin 2048) (d : Fin 768) : I.num M s d = ((Real.exp (M' - M) : ℝ) : EReal) * I.num M' s d := by
  unfold num
  rw [mul_sum_real _ (Real.exp_pos _).le]
  refine Finset.sum_congr rfl fun j _ => ?_
  split
  · rw [← mul_assoc, ← EReal.coe_mul, ← Real.exp_add]
    congr 3
    ring
  · simp

/-- The attended values do not depend on the shift, where neither denominator is below the least one. -/
theorem attn_shift (M M' : ℝ) (s : Fin 2048) (d : Fin 768) (h : tiny ≤ I.den M s (headOf d)) (h' : tiny ≤ I.den M' s (headOf d)) :
    I.attn M s d = I.attn M' s d := by
  unfold attn
  rw [max_eq_left h, max_eq_left h', I.num_shift M M', I.den_shift M M']
  rw [mul_comm (Real.exp (M' - M) : EReal), mul_assoc, ← EReal.coe_mul, one_div, one_div, mul_inv, ← mul_assoc,
    mul_inv_cancel₀ (Real.exp_ne_zero _), one_mul]

/-- Under the shift by the logit of one of its positions a segment's denominator is at least one. -/
theorem one_le_den (j : Fin 2048) (g : Fin 8) : 1 ≤ I.den (I.lgt j g) (I.sg j) g := by
  have h := Finset.single_le_sum (f := fun i => if I.sg i = I.sg j then Real.exp (I.lgt i g - I.lgt j g) else 0) (s := Finset.univ)
    (fun i _ => by split; exact (Real.exp_pos _).le; exact le_refl _) (Finset.mem_univ j)
  simpa [den] using h

/-- The attended values are the sum of the positions' values, each weighed by its share. -/
theorem attn_eq_sum (M : ℝ) (s : Fin 2048) (d : Fin 768) :
    I.attn M s d = ∑ j, if I.sg j = s then ((Real.exp (I.lgt j (headOf d) - M) / max (I.den M (I.sg j) (headOf d)) tiny : ℝ) : EReal) * I.val j d else 0 := by
  unfold attn num
  rw [mul_comm, mul_sum_real _ (one_div_nonneg.2 (le_max_of_le_right tiny_pos.le))]
  refine Finset.sum_congr rfl fun j _ => ?_
  split
  · next h => rw [h, ← mul_assoc, ← EReal.coe_mul, one_div_mul_eq_div]
  · simp

end Inp

/-- The bits of minus infinity. -/
theorem bot_bits : Ideal.ofBits .f32 0xFF800000#32 = (⊥ : EReal) := by
  simp [Ideal.ofBits, Ideal.ieee]

/-- A largest element, from minus infinity, is one of the elements, and not below any. -/
theorem fold_max_mem {n : ℕ} (f : Fin n → EReal) (j : Fin n) :
    ∃ i, Finset.univ.fold max ⊥ f = f i ∧ f j ≤ f i := by
  obtain ⟨i, _, e⟩ := Finset.exists_mem_eq_sup Finset.univ ⟨j, Finset.mem_univ j⟩ f
  refine ⟨i, e, ?_⟩
  rw [← e]
  exact Finset.le_sup (Finset.mem_univ j)

/-- A head's largest logit. -/
def Inp.top (I : Inp) (g : Fin 8) : ℝ := (Finset.univ.fold max ⊥ fun j => (I.lgt j g : EReal)).toReal

/-- It is the largest of the logits read in the extended reals. -/
theorem Inp.top_coe (I : Inp) (g : Fin 8) : Finset.univ.fold max ⊥ (fun j => (I.lgt j g : EReal)) = (I.top g : EReal) := by
  obtain ⟨i, e, _⟩ := fold_max_mem (fun j => (I.lgt j g : EReal)) 0
  rw [Inp.top, e, EReal.toReal_coe]

/-- A sum of real numbers, read in the extended reals. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The quotient of two real numbers, the divisor not zero. -/
theorem div_real (a : ℝ) {c : ℝ} (h : c ≠ 0) : Ideal.div (a : EReal) (c : EReal) = ((a / c : ℝ) : EReal) := by
  rw [Ideal.div_coe h, ← EReal.coe_mul, mul_one_div]

/-- The larger of two real numbers, read in the extended reals. -/
theorem coe_max (a c : ℝ) : max (a : EReal) (c : EReal) = ((max a c : ℝ) : EReal) :=
  (EReal.coe_strictMono.monotone.map_max).symm

/-- A choice between a real number and zero, read in the extended reals. -/
theorem coe_ite (p : Prop) [Decidable p] (a b : ℝ) : ((if p then a else b : ℝ) : EReal) = if p then (a : EReal) else (b : EReal) :=
  apply_ite _ _ _ _

end Cert.Proof

end
-- ==== Proof.RefLogits.lean ====
module

public import proofs.«01_k».proof.Proof.Segments
public import proofs.«01_k».proof.Proof.Model

/-! The reference's segment means, projections and logits, as real numbers. -/

@[expose] public section

noncomputable section

namespace Cert.Proof

open Idealize.ShloMosaic Cert.ReferenceIdeal Cert.ReferenceIdeal.Read

/-- Batch row `b` of the argument arrays holds the inputs `I`. -/
structure Reads (x0 : FVec Ideal S8x2048x768 .f32) (x1 : IVec S8x2048 32) (x2 x3 x4 x8 : FVec Ideal S768x768 .f32)
    (x5 x6 x7 x9 : FVec Ideal S768 .f32) (b : Fin 8) (I : Inp) : Prop where
  x : ∀ j d, x0 (ix3 b j d) = (I.x j d : EReal)
  sg : I.sg = seg (row x1 b)
  wq : ∀ o d, x2 (ix2 o d) = (I.wq o d : EReal)
  wk : ∀ o d, x3 (ix2 o d) = (I.wk o d : EReal)
  wv : ∀ o d, x4 (ix2 o d) = I.wv o d
  wo : ∀ o d, x8 (ix2 o d) = I.wo o d
  bq : ∀ d, x5 (ix1 d) = (I.bq d : EReal)
  bk : ∀ d, x6 (ix1 d) = (I.bk d : EReal)
  bv : ∀ d, x7 (ix1 d) = I.bv d
  bo : ∀ d, x9 (ix1 d) = I.bo d

section

variable {x0 : FVec Ideal S8x2048x768 .f32} {x1 : IVec S8x2048 32} {x2 x3 x4 x8 : FVec Ideal S768x768 .f32}
    {x5 x6 x7 x9 : FVec Ideal S768 .f32} {b : Fin 8} {I : Inp} (R : Reads x0 x1 x2 x3 x4 x8 x5 x6 x7 x9 b I)
include R

/-- The counts. -/
theorem ref_cnt (s : Fin 2048) : val_main_v25 (F := Ideal) x1 (ix2 b s) = (I.cnt s : EReal) := by
  unfold val_main_v25
  rw [scatter2 _ _ (addressed x1)]
  pointwise [val_main_v10, val_main_v9, val_main_cst, val_main_cst_0]
  rw [Inp.cnt, coe_sum, R.sg]
  exact Finset.sum_congr rfl fun j _ => by rw [coe_ite]; rfl

/-- The sums. -/
theorem ref_tot (s : Fin 2048) (d : Fin 768) : val_main_v41 (F := Ideal) x0 x1 (ix3 b s d) = (I.tot s d : EReal) := by
  unfold val_main_v41
  refine (scatter3 _ _ (addressed x1) _ _ _ b s d).trans ?_
  pointwise [val_main_v26, val_main_cst_5]
  rw [Inp.tot, coe_sum, R.sg]
  exact Finset.sum_congr rfl fun j _ => by rw [coe_ite, R.x]; rfl

/-- The means. -/
theorem ref_mean (s : Fin 2048) (d : Fin 768) : val_main_v46 (F := Ideal) x0 x1 (ix3 b s d) = (I.mean s d : EReal) := by
  pointwise [val_main_v46, val_main_v45, val_main_v44, val_main_v43, val_main_v42, val_main_cst_10]
  rw [ref_tot R, ref_cnt R, ← EReal.coe_one, coe_max, div_real _ (lt_of_lt_of_le one_pos (le_max_right _ _)).ne']
  rfl

/-- The queries. -/
theorem ref_qry (s : Fin 2048) (o : Fin 768) : val_main_v51 (F := Ideal) x0 x1 x2 x5 (ix3 b s o) = (I.qry s o : EReal) := by
  pointwise [val_main_v51, val_main_v50, val_main_v49, val_main_v48, val_main_v47]
  rw [Inp.qry, EReal.coe_add, coe_sum, R.bq]
  refine congrArg₂ HAdd.hAdd (Finset.sum_congr rfl fun d _ => ?_) rfl
  rw [ref_mean R s d, R.wq, EReal.coe_mul]

/-- The keys. -/
theorem ref_key (s : Fin 2048) (o : Fin 768) : val_main_v56 (F := Ideal) x0 x3 x6 (ix3 b s o) = (I.key s o : EReal) := by
  pointwise [val_main_v56, val_main_v55, val_main_v54, val_main_v53, val_main_v52]
  rw [Inp.key, EReal.coe_add, coe_sum, R.bk]
  exact congrArg₂ HAdd.hAdd (Finset.sum_congr rfl fun d _ => by rw [R.x, R.wk, EReal.coe_mul]) rfl

/-- The values. -/
theorem ref_val (s : Fin 2048) (o : Fin 768) : val_main_v61 (F := Ideal) x0 x4 x7 (ix3 b s o) = I.val s o := by
  pointwise [val_main_v61, val_main_v60, val_main_v59, val_main_v58, val_main_v57]
  rw [Inp.val, R.bv]
  exact congrArg₂ HAdd.hAdd (Finset.sum_congr rfl fun d _ => by rw [R.x, R.wv]) rfl

/-- The logits. -/
theorem ref_lgt (j : Fin 2048) (g : Fin 8) : val_main_v83 (F := Ideal) x0 x1 x2 x3 x5 x6 (ix3 b j g) = (I.lgt j g : EReal) := by
  pointwise [val_main_v83, val_main_v82, val_main_cst_16, val_main_v81, val_main_cst_15, val_main_v80, val_main_v63]
  rw [Inp.lgt, EReal.coe_mul, coe_sum, ← scale_coe]
  refine congrArg₂ HMul.hMul (Finset.sum_congr rfl fun e _ => ?_) rfl
  rw [EReal.coe_mul, ← ref_key R]
  refine congrArg₂ HMul.hMul ?_ rfl
  refine (gather4 _ _ (addressed x1) _ b j g e).trans ?_
  pointwise [val_main_v62]
  rw [R.sg]
  exact ref_qry R _ _

end

end Cert.Proof

end
-- ==== Proof.Pre.lean ====
module

public import proofs.«01_k».proof.Proof.RefLogits
public import proofs.«01_k».proof.Proof.Gen.Pre_clamp_idle
public import Idealize.ShloMosaic.PureOps.Ideal.Laws
public import Idealize.ShloMosaic.Lib.ReduceAll

/-! What the precondition gives: finite inputs, and denominators not below the least one under the
shift by each head's largest logit. -/

@[expose] public section

noncomputable section

namespace Cert.Proof

open Idealize.ShloMosaic Cert.ReferenceIdeal Cert.ReferenceIdeal.Read

instance : Cert.Pre_clamp_idle.Facts := Cert.Pre_clamp_idle.Gen.facts

/-- Whether every element of an array is finite, as the precondition tests it. -/
def finiteAll {s : Shape} {axes : List (Fin s.rank)} (hb : S_.BroadcastsInDim s (![] : Fin 0 → Fin s.rank))
    (h : s.ReducesTo axes S_) (x : FVec Ideal s .f32) : IVec S_ 1 :=
  Host.reduce IntOp.andi (cmpf .olt (Host.absf x) (broadcastInDim s ![] hb (constant (F := Ideal) S_ .f32 0x7F800000#32)))
    (constantI S_ 1 1#1) h (by decide)

variable (x0 : FVec Ideal S8x2048x768 .f32) (x1 : IVec S8x2048 32) (x2 x3 x4 x8 : FVec Ideal S768x768 .f32)
    (x5 x6 x7 x9 : FVec Ideal S768 .f32)

/-- The largest logit of each head. -/
def headTop : FVec Ideal Cert.Pre_clamp_idle.S8x8 .f32 :=
  Host.reduce FloatOps.maximumf (val_main_v83 (F := Ideal) x0 x1 x2 x3 x5 x6) (constant (F := Ideal) S_ .f32 0xFF800000#32)
    Cert.Pre_clamp_idle.Facts.reducesTo_S8x2048x8_S8x8_d1 (by decide)

/-- The exponentials shifted by it. -/
def headExp : FVec Ideal S8x2048x8 .f32 :=
  Host.exp (subf (val_main_v83 (F := Ideal) x0 x1 x2 x3 x5 x6)
    (broadcastInDim S8x2048x8 ![0, 1, 2] Cert.Pre_clamp_idle.Facts.bcast_S8x1x8_S8x2048x8_0_1_2
      (broadcastInDim Cert.Pre_clamp_idle.S8x1x8 ![0, 2] Cert.Pre_clamp_idle.Facts.bcast_S8x8_S8x1x8_0_2 (headTop x0 x1 x2 x3 x5 x6))))

/-- The denominators under that shift. -/
def headDen : FVec Ideal S8x2048x8 .f32 :=
  Host.scatterAdd scatter_S8x2048x8_S8x2048x2_S8x2048x8_2_01_01_2
    (broadcastInDim S8x2048x8 ![] Cert.Pre_clamp_idle.Facts.bcast_S_S8x2048x8 (constant (F := Ideal) S_ .f32 0x00000000#32))
    (val_main_v24 (F := Ideal) x1) (headExp x0 x1 x2 x3 x5 x6)

/-- Whether each segment is empty or has a denominator not below the least one. -/
def safe : IVec S8x2048x8 1 :=
  ori (broadcastInDim S8x2048x8 ![0, 1, 2] Cert.Pre_clamp_idle.Facts.bcast_S8x2048x1_S8x2048x8_0_1_2
      (cmpf .oeq (broadcastInDim S8x2048x1 ![0, 1] Cert.Pre_clamp_idle.Facts.bcast_S8x2048_S8x2048x1_0_1 (val_main_v25 (F := Ideal) x1))
        (broadcastInDim S8x2048x1 ![] Cert.Pre_clamp_idle.Facts.bcast_S_S8x2048x1 (constant (F := Ideal) S_ .f32 0x00000000#32))))
    (cmpf .oge (headDen x0 x1 x2 x3 x5 x6)
      (broadcastInDim S8x2048x8 ![] Cert.Pre_clamp_idle.Facts.bcast_S_S8x2048x8 (constant (F := Ideal) S_ .f32 0x0DA24260#32)))

open Cert.Pre_clamp_idle.Facts in
/-- Whether the features, the query and key weights and their biases are finite. -/
def finiteInputs : IVec S_ 1 :=
  andi (andi (andi (andi (andi (constantI S_ 1 1#1)
    (finiteAll bcast_S_S8x2048x768 reducesTo_S8x2048x768_S_d0_1_2 x0))
    (finiteAll bcast_S_S768x768 reducesTo_S768x768_S_d0_1 x2))
    (finiteAll bcast_S_S768x768 reducesTo_S768x768_S_d0_1 x3))
    (finiteAll bcast_S_S768 reducesTo_S768_S_d0 x5))
    (finiteAll bcast_S_S768 reducesTo_S768_S_d0 x6)

/-- The part of the precondition that reads the inputs and forms the segments. -/
theorem pre_segments : Cert.Pre_clamp_idle.fn (F := Ideal) x0 x1 x2 x3 x4 x5 x6 x7 x8 x9
    = Cert.Pre_clamp_idle.fn_part2 (F := Ideal) x0 x2 x3 x5 x6 (finiteInputs x0 x2 x3 x5 x6) (val_main_v6 (F := Ideal) x1) (val_main_v8 (F := Ideal)) (val_main_v9 (F := Ideal)) := by
  dsimp only [Cert.Pre_clamp_idle.fn, Cert.Pre_clamp_idle.fn_part1]
  rfl

/-- The part that counts the bytes of each segment. -/
theorem pre_counts (p : IVec S_ 1) : Cert.Pre_clamp_idle.fn_part2 (F := Ideal) x0 x2 x3 x5 x6 p (val_main_v6 (F := Ideal) x1) (val_main_v8 (F := Ideal)) (val_main_v9 (F := Ideal))
    = Cert.Pre_clamp_idle.fn_part3 (F := Ideal) x0 x2 x3 x5 x6 p (val_main_v6 (F := Ideal) x1) (val_main_v8 (F := Ideal)) (val_main_v25 (F := Ideal) x1)
      (val_main_v26 (F := Ideal)) (constantI S_ 32 0#32) := by
  dsimp only [Cert.Pre_clamp_idle.fn_part2]
  rfl

/-- The part that averages their features. -/
theorem pre_means (p : IVec S_ 1) : Cert.Pre_clamp_idle.fn_part3 (F := Ideal) x0 x2 x3 x5 x6 p (val_main_v6 (F := Ideal) x1) (val_main_v8 (F := Ideal)) (val_main_v25 (F := Ideal) x1)
      (val_main_v26 (F := Ideal)) (constantI S_ 32 0#32)
    = Cert.Pre_clamp_idle.fn_part4 (F := Ideal) x0 x2 x3 x5 x6 p (val_main_v6 (F := Ideal) x1) (val_main_v8 (F := Ideal)) (val_main_v25 (F := Ideal) x1)
      (val_main_v46 (F := Ideal) x0 x1) := by
  dsimp only [Cert.Pre_clamp_idle.fn_part3]
  rfl

/-- The part that forms the queries and the keys. -/
theorem pre_queries (p : IVec S_ 1) : Cert.Pre_clamp_idle.fn_part4 (F := Ideal) x0 x2 x3 x5 x6 p (val_main_v6 (F := Ideal) x1) (val_main_v8 (F := Ideal)) (val_main_v25 (F := Ideal) x1)
      (val_main_v46 (F := Ideal) x0 x1)
    = Cert.Pre_clamp_idle.fn_part5 (F := Ideal) p (val_main_v6 (F := Ideal) x1) (val_main_v8 (F := Ideal)) (val_main_v25 (F := Ideal) x1)
      (val_main_v62 (F := Ideal) x0 x1 x2 x5) (val_main_v63 (F := Ideal) x0 x3 x6) (val_main_v69 (F := Ideal))
      (val_main_v71 (F := Ideal) x1) (val_main_v72 (F := Ideal)) := by
  dsimp only [Cert.Pre_clamp_idle.fn_part4]
  rfl

/-- The part that forms the shifted exponentials. -/
theorem pre_exp (p : IVec S_ 1) : Cert.Pre_clamp_idle.fn_part5 (F := Ideal) p (val_main_v6 (F := Ideal) x1) (val_main_v8 (F := Ideal)) (val_main_v25 (F := Ideal) x1)
      (val_main_v62 (F := Ideal) x0 x1 x2 x5) (val_main_v63 (F := Ideal) x0 x3 x6) (val_main_v69 (F := Ideal))
      (val_main_v71 (F := Ideal) x1) (val_main_v72 (F := Ideal))
    = Cert.Pre_clamp_idle.fn_part6 (F := Ideal) p (val_main_v6 (F := Ideal) x1) (val_main_v8 (F := Ideal)) (val_main_v25 (F := Ideal) x1)
      (headExp x0 x1 x2 x3 x5 x6) (broadcastInDim S8x2048x8 ![] Cert.Pre_clamp_idle.Facts.bcast_S_S8x2048x8 (constant (F := Ideal) S_ .f32 0x00000000#32))
      (val_main_v66 (F := Ideal)) := by
  dsimp only [Cert.Pre_clamp_idle.fn_part5]
  rfl

/-- The part that sums them and compares. -/
theorem pre_compare (p : IVec S_ 1) : Cert.Pre_clamp_idle.fn_part6 (F := Ideal) p (val_main_v6 (F := Ideal) x1) (val_main_v8 (F := Ideal)) (val_main_v25 (F := Ideal) x1)
      (headExp x0 x1 x2 x3 x5 x6) (broadcastInDim S8x2048x8 ![] Cert.Pre_clamp_idle.Facts.bcast_S_S8x2048x8 (constant (F := Ideal) S_ .f32 0x00000000#32))
      (val_main_v66 (F := Ideal))
    = andi p (Host.reduce IntOp.andi (safe x0 x1 x2 x3 x5 x6) (constantI S_ 1 1#1)
        Cert.Pre_clamp_idle.Facts.reducesTo_S8x2048x8_S_d0_1_2 (by decide)) := by
  dsimp only [Cert.Pre_clamp_idle.fn_part6, Cert.Pre_clamp_idle.fn_part7]
  rfl

/-- The precondition, spelled by its parts. -/
theorem pre_eq : Cert.Pre_clamp_idle.fn (F := Ideal) x0 x1 x2 x3 x4 x5 x6 x7 x8 x9
    = andi (finiteInputs x0 x2 x3 x5 x6) (Host.reduce IntOp.andi (safe x0 x1 x2 x3 x5 x6) (constantI S_ 1 1#1)
        Cert.Pre_clamp_idle.Facts.reducesTo_S8x2048x8_S_d0_1_2 (by decide)) :=
  (pre_segments x0 x1 x2 x3 x4 x8 x5 x6 x7 x9).trans <| (pre_counts x0 x1 x2 x3 x5 x6 _).trans <| (pre_means x0 x1 x2 x3 x5 x6 _).trans <|
    (pre_queries x0 x1 x2 x3 x5 x6 _).trans <| (pre_exp x0 x1 x2 x3 x5 x6 _).trans (pre_compare x0 x1 x2 x3 x5 x6 _)

instance : Subsingleton S_.Idx := ⟨fun a b => funext fun k => k.elim0⟩

/-- A value whose absolute value is below infinity is a real number. -/
theorem real_of_lt (x : EReal) (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  unfold Ideal.cmp at h
  have lt : max x (-x) < ⊤ := by
    by_contra n
    simp [n] at h
  rw [max_lt_iff] at lt
  refine (EReal.coe_toReal lt.1.ne fun e => ?_).symm
  rw [e] at lt
  exact absurd lt.2 (by simp)

/-- Each element of an array that passes the test is a real number. -/
theorem real_of_finite {s : Shape} {axes : List (Fin s.rank)} (hb : S_.BroadcastsInDim s (![] : Fin 0 → Fin s.rank))
    (h : s.ReducesTo axes S_) (x : FVec Ideal s .f32) (j : S_.Idx) (e : finiteAll hb h x j = 1#1) (i : s.Idx) :
    x i = ((show EReal from x i).toReal : EReal) :=
  real_of_lt (x i) (Host.reduce_andi_all _ _ h _ j e i)

/-- The inputs of batch row `b`. -/
def inpOf (b : Fin 8) : Inp where
  x j d := (show EReal from x0 (ix3 b j d)).toReal
  sg := seg (row x1 b)
  wq o d := (show EReal from x2 (ix2 o d)).toReal
  wk o d := (show EReal from x3 (ix2 o d)).toReal
  wv o d := x4 (ix2 o d)
  wo o d := x8 (ix2 o d)
  bq d := (show EReal from x5 (ix1 d)).toReal
  bk d := (show EReal from x6 (ix1 d)).toReal
  bv d := x7 (ix1 d)
  bo d := x9 (ix1 d)

variable (P : Cert.Pre_clamp_idle.fn (F := Ideal) x0 x1 x2 x3 x4 x5 x6 x7 x8 x9 = fun _ => 1#1)
include P

/-- Under the precondition the arrays hold the real inputs. -/
theorem reads_of_pre (b : Fin 8) : Reads x0 x1 x2 x3 x4 x8 x5 x6 x7 x9 b (inpOf x0 x1 x2 x3 x4 x8 x5 x6 x7 x9 b) := by
  rw [pre_eq] at P
  have h := (IntOp.andi_eq_one.1 (congrFun P (fun a => a.elim0))).1
  obtain ⟨h, h6⟩ := IntOp.andi_eq_one.1 h
  obtain ⟨h, h5⟩ := IntOp.andi_eq_one.1 h
  obtain ⟨h, h3⟩ := IntOp.andi_eq_one.1 h
  obtain ⟨h, h2⟩ := IntOp.andi_eq_one.1 h
  have h0 := (IntOp.andi_eq_one.1 h).2
  exact
    { x := fun j d => real_of_finite _ _ _ _ h0 _
      sg := rfl
      wq := fun o d => real_of_finite _ _ _ _ h2 _
      wk := fun o d => real_of_finite _ _ _ _ h3 _
      wv := fun _ _ => rfl
      wo := fun _ _ => rfl
      bq := fun d => real_of_finite _ _ _ _ h5 _
      bk := fun d => real_of_finite _ _ _ _ h6 _
      bv := fun _ => rfl
      bo := fun _ => rfl }

omit P

/-- The largest logit of a head. -/
theorem headTop_eq {b : Fin 8} {I : Inp} (R : Reads x0 x1 x2 x3 x4 x8 x5 x6 x7 x9 b I) (g : Fin 8) :
    headTop x0 x1 x2 x3 x5 x6 (ix2 b g) = (I.top g : EReal) := by
  unfold headTop
  have h : S8x2048x8.Reduces [1] Cert.Pre_clamp_idle.S8x8 := by decide
  refine (Host.reduce_eq_fold_single (FloatOps.maximumf (F := Ideal) (φ := .f32)) _ _ _ h _ _).trans ?_
  refine Eq.trans ?_ ((congrArg (fun v => Finset.univ.fold max v _) bot_bits).trans (I.top_coe g))
  refine Finset.fold_congr fun l _ => ?_
  have hl : h.lift (ix2 b g) l = ix3 b (l : Fin 2048) g := by
    funext a
    match a with
    | ⟨0, _⟩ => rfl
    | ⟨1, _⟩ => rfl
    | ⟨2, _⟩ => rfl
  rw [Function.comp_apply, hl]
  exact ref_lgt R l g

/-- The shifted exponentials. -/
theorem headExp_eq {b : Fin 8} {I : Inp} (R : Reads x0 x1 x2 x3 x4 x8 x5 x6 x7 x9 b I) (j : Fin 2048) (g : Fin 8) :
    headExp x0 x1 x2 x3 x5 x6 (ix3 b j g) = (Real.exp (I.lgt j g - I.top g) : EReal) := by
  pointwise [headExp]
  rw [headTop_eq x0 x1 x2 x3 x4 x8 x5 x6 x7 x9 R, ref_lgt R, ← EReal.coe_sub]
  rfl

/-- The denominators. -/
theorem headDen_eq {b : Fin 8} {I : Inp} (R : Reads x0 x1 x2 x3 x4 x8 x5 x6 x7 x9 b I) (s : Fin 2048) (g : Fin 8) :
    headDen x0 x1 x2 x3 x5 x6 (ix3 b s g) = (I.den (I.top g) s g : EReal) := by
  unfold headDen
  refine (scatter3 _ _ (addressed x1) _ _ _ b s g).trans ?_
  pointwise []
  rw [Inp.den, coe_sum]
  refine Finset.sum_congr rfl fun j _ => ?_
  rw [coe_ite, headExp_eq x0 x1 x2 x3 x4 x8 x5 x6 x7 x9 R, ← R.sg]
  rfl

include P in
/-- Under the precondition the denominator of a segment that is not empty is not below the least one. -/
theorem den_of_pre {b : Fin 8} {I : Inp} (R : Reads x0 x1 x2 x3 x4 x8 x5 x6 x7 x9 b I) (s : Fin 2048) (g : Fin 8) (hs : 0 < I.cnt s) :
    tiny ≤ I.den (I.top g) s g := by
  rw [pre_eq] at P
  have h := (IntOp.andi_eq_one.1 (congrFun P (fun a => a.elim0))).2
  have e := Host.reduce_andi_all _ _ _ _ _ h (ix3 b s g)
  revert e
  pointwise [safe]
  rw [ref_cnt R, headDen_eq x0 x1 x2 x3 x4 x8 x5 x6 x7 x9 R, tiny_coe]
  intro e
  by_contra n
  rw [decide_eq_false (fun q => hs.ne' (EReal.coe_eq_zero.1 q)), decide_eq_false (fun q => n (EReal.coe_le_coe_iff.1 q))] at e
  exact absurd e (by decide)

end Cert.Proof

end
-- ==== Proof.Blocks.lean ====
module

public import proofs.«01_k».proof.Proof.KernelRun
public import proofs.«01_k».proof.Proof.Model
public import Idealize.ShloMosaic.Lib.Pointwise
public import Idealize.ShloMosaic.Lib.WordCmp

/-! What each grid point's blocks hold of the arguments. -/

@[expose] public section

noncomputable section

namespace Cert.KernelIdeal.Hand

open Idealize.ShloMosaic Idealize.ShloMosaic.TcCoe Cert.KernelIdeal.Gen Cert.Proof

variable (m : (ℓ : Loc nD τ sig) → Buf (Elt Ideal) ℓ) (c : Dev nD)

/-- A transposed weight at an index. -/
theorem turned (w : FVec Ideal S768x768 .f32) (d o : Fin 768) :
    truncf .bf16 (transpose S768x768 [1, 0] w transposes_S768x768_S768x768_1_0) bitsLt_bf16_f32 (ix2 d o) = w (ix2 o d) := by
  pointwise

/-- A bias as a row, at an index. -/
theorem laid (w : FVec Ideal S768 .f32) (d : Fin 768) : shapeCast S1x768 w shapeCasts_S768_S1x768 (ix2 0 d) = w (ix1 d) := by
  pointwise

/-- The boundary marks as rows, at an index. -/
theorem stacked (w : IVec S8x2048 32) (b : Fin 8) (j : Fin 2048) :
    shapeCast S8x1x2048 w shapeCasts_S8x2048_S8x1x2048 (ix3 b 0 j) = w (ix2 b j) := by
  pointwise

/-- The features, as launched. -/
theorem V_x (y : S8x2048x768.Idx) : V m c main_v1 y = m ((c : Thread nD τ).loc main_arg0) y := by
  unfold_abbrev_sides
  after_results
  rfl

/-- The marks, as launched. -/
theorem V_marks (b : Fin 8) (j : Fin 2048) : V m c main_v0 (ix3 b 0 j) = m ((c : Thread nD τ).loc main_arg1) (ix2 b j) := by
  unfold_abbrev_sides
  after_results
  exact stacked _ b j

/-- The query weight, as launched. -/
theorem V_wq (d o : Fin 768) : V m c main_v3 (ix2 d o) = m ((c : Thread nD τ).loc main_arg2) (ix2 o d) := by
  unfold_abbrev_sides
  after_results
  exact turned _ d o

/-- The key weight, as launched. -/
theorem V_wk (d o : Fin 768) : V m c main_v5 (ix2 d o) = m ((c : Thread nD τ).loc main_arg3) (ix2 o d) := by
  unfold_abbrev_sides
  after_results
  exact turned _ d o

/-- The value weight, as launched. -/
theorem V_wv (d o : Fin 768) : V m c main_v7 (ix2 d o) = m ((c : Thread nD τ).loc main_arg4) (ix2 o d) := by
  unfold_abbrev_sides
  after_results
  exact turned _ d o

/-- The output weight, as launched. -/
theorem V_wo (d o : Fin 768) : V m c main_v9 (ix2 d o) = m ((c : Thread nD τ).loc main_arg8) (ix2 o d) := by
  unfold_abbrev_sides
  after_results
  exact turned _ d o

/-- The query bias, as launched. -/
theorem V_bq (d : Fin 768) : V m c main_v10 (ix2 0 d) = m ((c : Thread nD τ).loc main_arg5) (ix1 d) := by
  unfold_abbrev_sides
  after_results
  exact laid _ d

/-- The key bias, as launched. -/
theorem V_bk (d : Fin 768) : V m c main_v11 (ix2 0 d) = m ((c : Thread nD τ).loc main_arg6) (ix1 d) := by
  unfold_abbrev_sides
  after_results
  exact laid _ d

/-- The value bias, as launched. -/
theorem V_bv (d : Fin 768) : V m c main_v12 (ix2 0 d) = m ((c : Thread nD τ).loc main_arg7) (ix1 d) := by
  unfold_abbrev_sides
  after_results
  exact laid _ d

/-- The output bias, as launched. -/
theorem V_bo (d : Fin 768) : V m c main_v13 (ix2 0 d) = m ((c : Thread nD τ).loc main_arg9) (ix1 d) := by
  unfold_abbrev_sides
  after_results
  exact laid _ d

/-- A block that starts at 0 covers its array in place. -/
theorem in_place {n : ℕ} {i : Fin n → ℕ} (h : i = fun _ => 0) (a : Fin n) (s y : ℕ) : i a * s + 1 * y = y := by
  rw [h]
  simp

/-- The features' block is batch row `t`. -/
theorem block_x (t : Fin cfg0.N) (b : Fin 8) (hb : b.val = t.val) (j : Fin 2048) (d : Fin 768) :
    iblk m c 0 t (ix3 0 j d) = m ((c : Thread nD τ).loc main_arg0) (ix3 b j d) := by
  show V m c main_v1 (((cfg0.win 0).blk t).view.emb (ix3 0 j d)) = _
  rw [V_x]
  refine congrArg _ (funext fun a => Fin.ext ?_)
  have e : win0_0.index t = ![t.val, 0, 0] := (by decide +kernel : ∀ t : Fin grid0.N, win0_0.index t = ![t.val, 0, 0]) t
  match a with
  | ⟨0, _⟩ => show win0_0.index t (0 : Fin 3) * 1 + 1 * 0 = b.val; rw [e, hb]; show t.val * 1 + 1 * 0 = t.val; omega
  | ⟨1, _⟩ => show win0_0.index t (1 : Fin 3) * 2048 + 1 * j.val = j.val; rw [e]; show 0 * 2048 + 1 * j.val = j.val; omega
  | ⟨2, _⟩ => show win0_0.index t (2 : Fin 3) * 768 + 1 * d.val = d.val; rw [e]; show 0 * 768 + 1 * d.val = d.val; omega

/-- The marks' block is the whole array. -/
theorem whole1 (t : Fin cfg0.N) (y : S8x1x2048.Idx) : ((cfg0.win 1).blk t).view.emb y = y :=
  funext fun a => Fin.ext (in_place ((by decide +kernel : ∀ t : Fin grid0.N, win0_1.index t = fun _ => 0) t) a _ _)

/-- The query weight's block is the whole array. -/
theorem whole2 (t : Fin cfg0.N) (y : S768x768.Idx) : ((cfg0.win 2).blk t).view.emb y = y :=
  funext fun a => Fin.ext (in_place ((by decide +kernel : ∀ t : Fin grid0.N, win0_2.index t = fun _ => 0) t) a _ _)

/-- The key weight's block is the whole array. -/
theorem whole3 (t : Fin cfg0.N) (y : S768x768.Idx) : ((cfg0.win 3).blk t).view.emb y = y :=
  funext fun a => Fin.ext (in_place ((by decide +kernel : ∀ t : Fin grid0.N, win0_3.index t = fun _ => 0) t) a _ _)

/-- The value weight's block is the whole array. -/
theorem whole4 (t : Fin cfg0.N) (y : S768x768.Idx) : ((cfg0.win 4).blk t).view.emb y = y :=
  funext fun a => Fin.ext (in_place ((by decide +kernel : ∀ t : Fin grid0.N, win0_4.index t = fun _ => 0) t) a _ _)

/-- The output weight's block is the whole array. -/
theorem whole5 (t : Fin cfg0.N) (y : S768x768.Idx) : ((cfg0.win 5).blk t).view.emb y = y :=
  funext fun a => Fin.ext (in_place ((by decide +kernel : ∀ t : Fin grid0.N, win0_5.index t = fun _ => 0) t) a _ _)

/-- The query bias's block is the whole array. -/
theorem whole6 (t : Fin cfg0.N) (y : S1x768.Idx) : ((cfg0.win 6).blk t).view.emb y = y :=
  funext fun a => Fin.ext (in_place ((by decide +kernel : ∀ t : Fin grid0.N, win0_6.index t = fun _ => 0) t) a _ _)

/-- The key bias's block is the whole array. -/
theorem whole7 (t : Fin cfg0.N) (y : S1x768.Idx) : ((cfg0.win 7).blk t).view.emb y = y :=
  funext fun a => Fin.ext (in_place ((by decide +kernel : ∀ t : Fin grid0.N, win0_7.index t = fun _ => 0) t) a _ _)

/-- The value bias's block is the whole array. -/
theorem whole8 (t : Fin cfg0.N) (y : S1x768.Idx) : ((cfg0.win 8).blk t).view.emb y = y :=
  funext fun a => Fin.ext (in_place ((by decide +kernel : ∀ t : Fin grid0.N, win0_8.index t = fun _ => 0) t) a _ _)

/-- The output bias's block is the whole array. -/
theorem whole9 (t : Fin cfg0.N) (y : S1x768.Idx) : ((cfg0.win 9).blk t).view.emb y = y :=
  funext fun a => Fin.ext (in_place ((by decide +kernel : ∀ t : Fin grid0.N, win0_9.index t = fun _ => 0) t) a _ _)

variable (t : Fin cfg0.N)

/-- The marks, in their block. -/
theorem block_marks (b : Fin 8) (j : Fin 2048) :
    iblk m c 1 t (ix3 b 0 j) = m ((c : Thread nD τ).loc main_arg1) (ix2 b j) := by
  show V m c main_v0 (((cfg0.win 1).blk t).view.emb (ix3 b 0 j)) = _
  rw [whole1]; exact V_marks m c b j

/-- The query weight, in its block. -/
theorem block_wq (d o : Fin 768) : iblk m c 2 t (ix2 d o) = m ((c : Thread nD τ).loc main_arg2) (ix2 o d) := by
  show V m c main_v3 (((cfg0.win 2).blk t).view.emb (ix2 d o)) = _
  rw [whole2]; exact V_wq m c d o

/-- The key weight, in its block. -/
theorem block_wk (d o : Fin 768) : iblk m c 3 t (ix2 d o) = m ((c : Thread nD τ).loc main_arg3) (ix2 o d) := by
  show V m c main_v5 (((cfg0.win 3).blk t).view.emb (ix2 d o)) = _
  rw [whole3]; exact V_wk m c d o

/-- The value weight, in its block. -/
theorem block_wv (d o : Fin 768) : iblk m c 4 t (ix2 d o) = m ((c : Thread nD τ).loc main_arg4) (ix2 o d) := by
  show V m c main_v7 (((cfg0.win 4).blk t).view.emb (ix2 d o)) = _
  rw [whole4]; exact V_wv m c d o

/-- The output weight, in its block. -/
theorem block_wo (d o : Fin 768) : iblk m c 5 t (ix2 d o) = m ((c : Thread nD τ).loc main_arg8) (ix2 o d) := by
  show V m c main_v9 (((cfg0.win 5).blk t).view.emb (ix2 d o)) = _
  rw [whole5]; exact V_wo m c d o

/-- The query bias, in its block. -/
theorem block_bq (d : Fin 768) : iblk m c 6 t (ix2 0 d) = m ((c : Thread nD τ).loc main_arg5) (ix1 d) := by
  show V m c main_v10 (((cfg0.win 6).blk t).view.emb (ix2 0 d)) = _
  rw [whole6]; exact V_bq m c d

/-- The key bias, in its block. -/
theorem block_bk (d : Fin 768) : iblk m c 7 t (ix2 0 d) = m ((c : Thread nD τ).loc main_arg6) (ix1 d) := by
  show V m c main_v11 (((cfg0.win 7).blk t).view.emb (ix2 0 d)) = _
  rw [whole7]; exact V_bk m c d

/-- The value bias, in its block. -/
theorem block_bv (d : Fin 768) : iblk m c 8 t (ix2 0 d) = m ((c : Thread nD τ).loc main_arg7) (ix1 d) := by
  show V m c main_v12 (((cfg0.win 8).blk t).view.emb (ix2 0 d)) = _
  rw [whole8]; exact V_bv m c d

/-- The output bias, in its block. -/
theorem block_bo (d : Fin 768) : iblk m c 9 t (ix2 0 d) = m ((c : Thread nD τ).loc main_arg9) (ix1 d) := by
  show V m c main_v13 (((cfg0.win 9).blk t).view.emb (ix2 0 d)) = _
  rw [whole9]; exact V_bo m c d

end Cert.KernelIdeal.Hand

end
-- ==== Proof.Tiles.lean ====
module

public import proofs.«01_k».proof.Proof.KernelBody
public import proofs.«01_k».proof.Proof.Model
public import Idealize.ShloMosaic.Lib.Pointwise
public import Idealize.ShloMosaic.Lib.WordCmp
public import Idealize.ShloMosaic.PureOps.Ideal.Laws

/-! What one grid point computes, tile by tile. -/

@[expose] public section

noncomputable section

namespace Cert.KernelIdeal.Hand

open Idealize.ShloMosaic Cert.KernelIdeal.Gen Cert.Proof

variable (x0 : Vec Ideal S1x2048x768 .bf16) (x2 x3 x4 x5 : Vec Ideal S768x768 .bf16) (x6 x7 x8 x9 : Vec Ideal S1x768 .f32)
  (r : Vec Ideal S1x2048 .i32)

/-- A grid point's blocks hold the inputs `I`. -/
structure Holds (I : Inp) : Prop where
  x : ∀ j d, x0 (ix3 0 j d) = (I.x j d : EReal)
  wq : ∀ o d, x2 (ix2 d o) = (I.wq o d : EReal)
  wk : ∀ o d, x3 (ix2 d o) = (I.wk o d : EReal)
  wv : ∀ o d, x4 (ix2 d o) = I.wv o d
  wo : ∀ o d, x5 (ix2 d o) = I.wo o d
  bq : ∀ d, x6 (ix2 0 d) = (I.bq d : EReal)
  bk : ∀ d, x7 (ix2 0 d) = (I.bk d : EReal)
  bv : ∀ d, x8 (ix2 0 d) = I.bv d
  bo : ∀ d, x9 (ix2 0 d) = I.bo d
  sg : ∀ j, r (ix2 0 j) = BitVec.ofNat 32 (I.sg j).val

/-- The 0/1 matrix saying which bytes share the segment of each of the 256 bytes from `o`. -/
def shares (o : ℕ) (h : S2048x1.Slices ![o, 0] S256x1) : FVec Ideal S256x2048 .bf16 :=
  truncf .bf16 (sitofp .f32 (extui 32 (cmpi .eq
    (broadcastTo S256x2048 (extractStridedSlice S256x1 ![o, 0] (k0_pay11 (F := Ideal) r) h) broadcasts_S256x1_S256x2048)
    (broadcastTo S256x2048 (shapeCast S1x2048 r shapeCasts_S1x2048_S1x2048) broadcasts_S1x2048_S256x2048)) natLt_1_32)) bitsLt_bf16_f32

/-- The tile's sums over each byte's segment: the projected features, and last the count. -/
def sums (o : ℕ) (h : S2048x1.Slices ![o, 0] S256x1) : FVec Ideal S256x769 .f32 :=
  matmul dot_S256x2048_S2048x769_S256x769_1_0_0_1_n_n none (shares r o h) (k0_pay16 (F := Ideal) (k0_pay10 x0) x2)
    (constant S256x769 .f32 0x00000000#32)

/-- The tile's queries. -/
def queries (o : ℕ) (h : S2048x1.Slices ![o, 0] S256x1) : FVec Ideal S256x768 .f32 :=
  addf (divf (extractStridedSlice S256x768 ![0, 0] (sums x0 x2 r o h) slices_S256x769_o0_0_S256x768)
      (broadcastTo S256x768 (extractStridedSlice S256x1 ![0, 768] (sums x0 x2 r o h) slices_S256x769_o0_768_S256x1) broadcasts_S256x1_S256x768))
    (broadcastTo S256x768 (shapeCast S1x768 x6 shapeCasts_S1x768_S1x768) broadcasts_S1x768_S256x768)

/-- A projection of the tile's bytes. -/
def project (w : Vec Ideal S768x768 .bf16) (b : Vec Ideal S1x768 .f32) (o : ℕ) (h : S2048x768.Slices ![o, 0] S256x768) : FVec Ideal S256x768 .f32 :=
  addf (matmul dot_S256x768_S768x768_S256x768_1_0_0_1_n_n none
      (extractStridedSlice S256x768 ![o, 0] (k0_pay10 (F := Ideal) x0) h) (shapeCast (α := Ideal .bf16) S768x768 w shapeCasts_S768x768_S768x768)
      (constant S256x768 .f32 0x00000000#32))
    (broadcastTo S256x768 (shapeCast S1x768 b shapeCasts_S1x768_S1x768) broadcasts_S1x768_S256x768)

/-- The tile's logits. -/
def logits (o : ℕ) (h : S2048x1.Slices ![o, 0] S256x1) (h' : S2048x768.Slices ![o, 0] S256x768) : FVec Ideal S256x8 .f32 :=
  mulf (matmul dot_S256x768_S768x8_S256x8_1_0_0_1_n_n none
      (truncf .bf16 (mulf (queries x0 x2 x6 r o h) (project x0 x3 x7 o h')) bitsLt_bf16_f32) (headMat (F := Ideal))
      (constant S256x8 .f32 0x00000000#32))
    (broadcast S256x8 (Scalar.ofBits .f32 0x3DD105EC#32))

/-- The tile's weighted values, from all the exponentials `E`. -/
def values (E : FVec Ideal S2048x8 .f32) (o : ℕ) (h : S2048x1.Slices ![o, 0] S256x1) (h' : S2048x768.Slices ![o, 0] S256x768)
    (h'' : S2048x8.Slices ![o, 0] S256x8) : FVec Ideal S256x768 .bf16 :=
  truncf .bf16 (mulf (matmul dot_S256x8_S8x768_S256x768_1_0_0_1_n_n none
      (truncf .bf16 (divf (extractStridedSlice S256x8 ![o, 0] E h'')
        (maximumf (matmul dot_S256x2048_S2048x8_S256x8_1_0_0_1_n_n none (shares r o h) (truncf .bf16 E bitsLt_bf16_f32)
            (constant S256x8 .f32 0x00000000#32))
          (broadcast S256x8 (Scalar.ofBits .f32 0x0DA24260#32)))) bitsLt_bf16_f32)
      (transpose S8x768 [1, 0] (headMat (F := Ideal)) transposes_S768x8_p1_0_S8x768)
      (constant S256x768 .f32 0x00000000#32))
    (project x0 x4 x8 o h')) bitsLt_bf16_f32

/-- A sum over the features of one head runs over its lanes. -/
theorem sum_lane (f : Fin 768 → ℝ) (g : Fin 8) : (∑ d, f d * (if headOf d = g then 1 else 0)) = ∑ e, f (lane g e) := by
  simp only [mul_ite, mul_one, mul_zero]
  rw [← Finset.sum_filter]
  refine (Finset.sum_nbij (fun e => lane g e) ?_ ?_ ?_ fun _ _ => rfl).symm
  · intro e _
    rw [Finset.mem_filter]
    exact ⟨Finset.mem_univ _, Fin.ext (show (g.val * 96 + e.val) / 96 = g.val by omega)⟩
  · intro a _ b _ q
    have : g.val * 96 + a.val = g.val * 96 + b.val := congrArg Fin.val q
    exact Fin.ext (by omega)
  · intro d hd
    have q : d.val / 96 = g.val := congrArg Fin.val (Finset.mem_filter.1 hd).2
    exact ⟨⟨d.val % 96, by omega⟩, Finset.mem_coe.2 (Finset.mem_univ _), Fin.ext (show g.val * 96 + d.val % 96 = d.val by omega)⟩

variable {x0 x2 x3 x4 x5 x6 x7 x8 x9 r}

/-- A truth value read as a number. -/
theorem sitofp_ofBool (b : Bool) : FloatOps.sitofp (F := Ideal) .f32 (BitVec.setWidth 32 (BitVec.ofBool b)) = ((if b then 1 else 0 : ℝ) : EReal) := by
  cases b
  · show ((((0#32 : BitVec 32).toInt : ℝ)) : EReal) = _
    norm_num
  · show ((((1#32 : BitVec 32).toInt : ℝ)) : EReal) = _
    norm_num

/-- The test that two small words are equal, read as a number. -/
theorem sitofp_eq {a b : ℕ} (ha : a < 2 ^ 32) (hb : b < 2 ^ 32) :
    FloatOps.sitofp (F := Ideal) .f32 (BitVec.setWidth 32 (IntOp.cmpi .eq (BitVec.ofNat 32 a) (BitVec.ofNat 32 b))) = ((if a = b then 1 else 0 : ℝ) : EReal) := by
  rw [WordCmp.cmpi_eq_ofNat ha hb, sitofp_ofBool]
  simp only [decide_eq_true_eq]

/-- The head of a feature, as the program divides. -/
theorem head_word (d : Fin 768) :
    Scalar.select
      (IntOp.andi
        (IntOp.cmpi CmpIPredicate.ne
          (IntOp.subi (BitVec.setWidth 32 (IntOp.cmpi CmpIPredicate.sgt (BitVec.ofNat 32 d.val) 0#32))
            (BitVec.setWidth 32 (IntOp.cmpi CmpIPredicate.slt (BitVec.ofNat 32 d.val) 0#32)))
          (Scalar.subi (Scalar.extui (Scalar.cmpi CmpIPredicate.sgt 96#32 0#32))
            (Scalar.extui (Scalar.cmpi CmpIPredicate.slt 96#32 0#32))))
        (IntOp.cmpi CmpIPredicate.ne (IntOp.remsi ArithUnit.vector (BitVec.ofNat 32 d.val) 96#32) 0#32))
      (IntOp.subi (IntOp.divsi ArithUnit.vector (BitVec.ofNat 32 d.val) 96#32) 1#32)
      (IntOp.divsi ArithUnit.vector (BitVec.ofNat 32 d.val) 96#32) = BitVec.ofNat 32 (d.val / 96) := by
  revert d
  decide +kernel

/-- The head matrix. -/
theorem headMat_eq (d : Fin 768) (g : Fin 8) : headMat (F := Ideal) (ix2 d g) = ((if headOf d = g then 1 else 0 : ℝ) : EReal) := by
  pointwise [headMat, k0_pay15, k0_pay14, k0_pay13]
  rw [head_word, sitofp_eq (by omega) (by omega)]
  simp only [headOf, Fin.ext_iff]

variable {I : Inp} (H : Holds x0 x2 x3 x4 x5 x6 x7 x8 x9 r I)
include H

/-- Which bytes share a segment. -/
theorem shares_eq (o : ℕ) (h : S2048x1.Slices ![o, 0] S256x1) (i : Fin 256) (l : Fin 2048) (j : Fin 2048) (hj : j.val = o + i.val) :
    shares r o h (ix2 i l) = ((if I.sg l = I.sg j then 1 else 0 : ℝ) : EReal) := by
  pointwise [shares, k0_pay11]
  rw [H.sg, H.sg, sitofp_eq (by omega) (by omega)]
  rw [show (⟨o + i.val, _⟩ : Fin 2048) = j from Fin.ext hj.symm]
  simp only [Fin.ext_iff, eq_comm]

/-- The projected features, a feature column. -/
theorem aug_eq (l : Fin 2048) (d : Fin 768) :
    k0_pay16 (F := Ideal) (k0_pay10 x0) x2 (ix2 l ⟨d.val, by omega⟩) = ((∑ e, I.x l e * I.wq d e : ℝ) : EReal) := by
  pointwise [k0_pay16, k0_pay10]
  rw [coe_sum]
  exact Finset.sum_congr rfl fun e _ => by rw [H.x, H.wq, EReal.coe_mul]

/-- The column of ones. -/
theorem aug_one (l : Fin 2048) :
    k0_pay16 (F := Ideal) (k0_pay10 x0) x2 (ix2 l 768) = ((1 : ℝ) : EReal) := by
  pointwise [k0_pay16, k0_pay10]
  exact EReal.coe_one.symm

/-- The tile's sums, a feature column. -/
theorem sums_eq (o : ℕ) (h : S2048x1.Slices ![o, 0] S256x1) (i : Fin 256) (d : Fin 768) (j : Fin 2048) (hj : j.val = o + i.val) :
    sums x0 x2 r o h (ix2 i ⟨d.val, by omega⟩) = ((∑ e, I.tot (I.sg j) e * I.wq d e : ℝ) : EReal) := by
  pointwise [sums]
  trans ((∑ l, (if I.sg l = I.sg j then 1 else 0) * ∑ e, I.x l e * I.wq d e : ℝ) : EReal)
  · rw [coe_sum]
    exact Finset.sum_congr rfl fun l _ => by rw [shares_eq H o h i l j hj, aug_eq H, EReal.coe_mul]
  · refine congrArg _ ?_
    simp only [Inp.tot, Finset.sum_mul, Finset.mul_sum]
    rw [Finset.sum_comm]
    refine Finset.sum_congr rfl fun e _ => Finset.sum_congr rfl fun l _ => ?_
    split <;> simp

/-- The tile's counts. -/
theorem sums_one (o : ℕ) (h : S2048x1.Slices ![o, 0] S256x1) (i : Fin 256) (j : Fin 2048) (hj : j.val = o + i.val) :
    sums x0 x2 r o h (ix2 i 768) = (I.cnt (I.sg j) : EReal) := by
  pointwise [sums]
  rw [Inp.cnt, coe_sum]
  exact Finset.sum_congr rfl fun l _ => by rw [shares_eq H o h i l j hj, aug_one H, EReal.coe_one, mul_one]

/-- The tile's queries. -/
theorem queries_eq (o : ℕ) (h : S2048x1.Slices ![o, 0] S256x1) (i : Fin 256) (d : Fin 768) (j : Fin 2048) (hj : j.val = o + i.val) :
    queries x0 x2 x6 r o h (ix2 i d) = (I.qry (I.sg j) d : EReal) := by
  have c := I.one_le_cnt j
  pointwise [queries]
  rw [sums_eq H o h i d j hj, sums_one H o h i j hj, H.bq, div_real _ (lt_of_lt_of_le one_pos c).ne', ← EReal.coe_add]
  refine congrArg _ ?_
  unfold Inp.qry Inp.mean
  rw [max_eq_left c, Finset.sum_div]
  exact congrArg (· + _) (Finset.sum_congr rfl fun e _ => by ring)

/-- The tile's projections, against a weight matrix and a bias. -/
theorem project_eq {w : Vec Ideal S768x768 .bf16} {b : Vec Ideal S1x768 .f32} {w' : Fin 768 → Fin 768 → EReal} {b' : Fin 768 → EReal}
    (hw : ∀ o d, w (ix2 d o) = w' o d) (hb : ∀ d, b (ix2 0 d) = b' d)
    (o : ℕ) (h : S2048x768.Slices ![o, 0] S256x768) (i : Fin 256) (d : Fin 768) (j : Fin 2048) (hj : j.val = o + i.val) :
    project x0 w b o h (ix2 i d) = (∑ e, (I.x j e : EReal) * w' d e) + b' d := by
  pointwise [project, k0_pay10]
  rw [hb]
  refine congrArg₂ HAdd.hAdd (Finset.sum_congr rfl fun e _ => ?_) rfl
  rw [show (⟨o + i.val, _⟩ : Fin 2048) = j from Fin.ext hj.symm, H.x, hw]

/-- The tile's keys. -/
theorem keys_eq (o : ℕ) (h : S2048x768.Slices ![o, 0] S256x768) (i : Fin 256) (d : Fin 768) (j : Fin 2048) (hj : j.val = o + i.val) :
    project x0 x3 x7 o h (ix2 i d) = (I.key j d : EReal) := by
  rw [project_eq H (w' := fun o d => (I.wk o d : EReal)) (b' := fun d => (I.bk d : EReal)) H.wk H.bk o h i d j hj, Inp.key, EReal.coe_add, coe_sum]
  exact congrArg₂ HAdd.hAdd (Finset.sum_congr rfl fun e _ => (EReal.coe_mul _ _).symm) rfl

/-- The tile's logits. -/
theorem logits_eq (o : ℕ) (h : S2048x1.Slices ![o, 0] S256x1) (h' : S2048x768.Slices ![o, 0] S256x768) (i : Fin 256) (g : Fin 8)
    (j : Fin 2048) (hj : j.val = o + i.val) :
    logits x0 x2 x3 x6 x7 r o h h' (ix2 i g) = (I.lgt j g : EReal) := by
  pointwise [logits]
  rw [scale_coe, Inp.lgt, EReal.coe_mul, ← sum_lane (fun d => I.qry (I.sg j) d * I.key j d), coe_sum]
  refine congrArg₂ HMul.hMul (Finset.sum_congr rfl fun d _ => ?_) rfl
  rw [queries_eq H o h i d j hj, keys_eq H o h' i d j hj, headMat_eq, ← EReal.coe_mul, ← EReal.coe_mul]

/-- The tile's weighted values, when `E` holds the exponentials shifted by `T`. -/
theorem values_eq {E : FVec Ideal S2048x8 .f32} {T : Fin 8 → ℝ} (hE : ∀ j g, E (ix2 j g) = (Real.exp (I.lgt j g - T g) : EReal))
    (o : ℕ) (h : S2048x1.Slices ![o, 0] S256x1) (h' : S2048x768.Slices ![o, 0] S256x768)
    (h'' : S2048x8.Slices ![o, 0] S256x8) (i : Fin 256) (d : Fin 768) (j : Fin 2048) (hj : j.val = o + i.val) :
    values x0 x4 x8 r E o h h' h'' (ix2 i d)
      = ((Real.exp (I.lgt j (headOf d) - T (headOf d)) / max (I.den (T (headOf d)) (I.sg j) (headOf d)) tiny : ℝ) : EReal) * I.val j d := by
  pointwise [values]
  have here : ∀ p g, E (ix2 ⟨o + i.val, p⟩ g) = (Real.exp (I.lgt j g - T g) : EReal) := fun p g => by
    rw [show (⟨o + i.val, p⟩ : Fin 2048) = j from Fin.ext hj.symm, hE]
  rw [project_eq H H.wv H.bv o h' i d _ hj]
  refine congrArg₂ HMul.hMul ?_ rfl
  have den : ∀ g, (∑ l, shares r o h (ix2 i l) * E (ix2 l g)) = (I.den (T g) (I.sg j) g : EReal) := fun g => by
    rw [Inp.den, coe_sum]
    refine Finset.sum_congr rfl fun l _ => ?_
    rw [shares_eq H o h i l _ hj, hE, ← EReal.coe_mul]
    split <;> simp
  rw [Finset.sum_eq_single (headOf d)]
  · rw [here, den, headMat_eq, if_pos rfl, tiny_coe, coe_max, div_real _ (lt_of_lt_of_le tiny_pos (le_max_right _ _)).ne', EReal.coe_one, mul_one]
  · intro g _ ne
    rw [headMat_eq, if_neg (Ne.symm ne), EReal.coe_zero, mul_zero]
  · exact fun n => absurd (Finset.mem_univ _) n

end Cert.KernelIdeal.Hand

end
-- ==== Proof.Expo.lean ====
module

public import proofs.«01_k».proof.Proof.Tiles

/-! The exponentials and the weighted values of all the bytes. -/

@[expose] public section

noncomputable section

namespace Cert.KernelIdeal.Hand

open Idealize.ShloMosaic Cert.KernelIdeal.Gen Cert.Proof

/-- Eight tiles laid side by side hold `V` when each holds its part of it. -/
theorem eight_tiles {L0 L1 L2 L3 L4 L5 L6 L7 : Fin 256 → EReal} {V : Fin 2048 → EReal}
    (h0 : ∀ (i : Fin 256) (j : Fin 2048), j.val = 0 + i.val → L0 i = V j)
    (h1 : ∀ (i : Fin 256) (j : Fin 2048), j.val = 256 + i.val → L1 i = V j)
    (h2 : ∀ (i : Fin 256) (j : Fin 2048), j.val = 512 + i.val → L2 i = V j)
    (h3 : ∀ (i : Fin 256) (j : Fin 2048), j.val = 768 + i.val → L3 i = V j)
    (h4 : ∀ (i : Fin 256) (j : Fin 2048), j.val = 1024 + i.val → L4 i = V j)
    (h5 : ∀ (i : Fin 256) (j : Fin 2048), j.val = 1280 + i.val → L5 i = V j)
    (h6 : ∀ (i : Fin 256) (j : Fin 2048), j.val = 1536 + i.val → L6 i = V j)
    (h7 : ∀ (i : Fin 256) (j : Fin 2048), j.val = 1792 + i.val → L7 i = V j)
    (j : Fin 2048) :
    (if h : j.val < 256 then L0 ⟨j.val, h⟩ else
    if h : j.val - 256 < 256 then L1 ⟨j.val - 256, h⟩ else
    if h : j.val - 256 - 256 < 256 then L2 ⟨j.val - 256 - 256, h⟩ else
    if h : j.val - 256 - 256 - 256 < 256 then L3 ⟨j.val - 256 - 256 - 256, h⟩ else
    if h : j.val - 256 - 256 - 256 - 256 < 256 then L4 ⟨j.val - 256 - 256 - 256 - 256, h⟩ else
    if h : j.val - 256 - 256 - 256 - 256 - 256 < 256 then L5 ⟨j.val - 256 - 256 - 256 - 256 - 256, h⟩ else
    if h : j.val - 256 - 256 - 256 - 256 - 256 - 256 < 256 then L6 ⟨j.val - 256 - 256 - 256 - 256 - 256 - 256, h⟩ else
    L7 ⟨j.val - 256 - 256 - 256 - 256 - 256 - 256 - 256, by have := j.isLt; omega⟩) = V j := by
  by_cases c0 : j.val < 256
  · rw [dif_pos c0]
    exact h0 _ _ (by show j.val = 0 + (j.val); omega)
  rw [dif_neg c0]
  by_cases c1 : j.val - 256 < 256
  · rw [dif_pos c1]
    exact h1 _ _ (by show j.val = 256 + (j.val - 256); omega)
  rw [dif_neg c1]
  by_cases c2 : j.val - 256 - 256 < 256
  · rw [dif_pos c2]
    exact h2 _ _ (by show j.val = 512 + (j.val - 256 - 256); omega)
  rw [dif_neg c2]
  by_cases c3 : j.val - 256 - 256 - 256 < 256
  · rw [dif_pos c3]
    exact h3 _ _ (by show j.val = 768 + (j.val - 256 - 256 - 256); omega)
  rw [dif_neg c3]
  by_cases c4 : j.val - 256 - 256 - 256 - 256 < 256
  · rw [dif_pos c4]
    exact h4 _ _ (by show j.val = 1024 + (j.val - 256 - 256 - 256 - 256); omega)
  rw [dif_neg c4]
  by_cases c5 : j.val - 256 - 256 - 256 - 256 - 256 < 256
  · rw [dif_pos c5]
    exact h5 _ _ (by show j.val = 1280 + (j.val - 256 - 256 - 256 - 256 - 256); omega)
  rw [dif_neg c5]
  by_cases c6 : j.val - 256 - 256 - 256 - 256 - 256 - 256 < 256
  · rw [dif_pos c6]
    exact h6 _ _ (by show j.val = 1536 + (j.val - 256 - 256 - 256 - 256 - 256 - 256); omega)
  rw [dif_neg c6]
  exact h7 _ _ (by show j.val = 1792 + (j.val - 256 - 256 - 256 - 256 - 256 - 256 - 256); omega)

/-- Eight tiles of logits, one below another. -/
def catHeads (L0 L1 L2 L3 L4 L5 L6 L7 : FVec Ideal S256x8 .f32) : FVec Ideal S2048x8 .f32 :=
  concatenate S2048x8 0
    [⟨S256x8, L0⟩, ⟨S256x8, L1⟩, ⟨S256x8, L2⟩, ⟨S256x8, L3⟩, ⟨S256x8, L4⟩, ⟨S256x8, L5⟩, ⟨S256x8, L6⟩, ⟨S256x8, L7⟩]
    concatenates_S256x8_S256x8_S256x8_S256x8_S256x8_S256x8_S256x8_S256x8_S2048x8_d0

/-- Eight tiles of values, one below another. -/
def catValues (L0 L1 L2 L3 L4 L5 L6 L7 : FVec Ideal S256x768 .bf16) : FVec Ideal S2048x768 .bf16 :=
  concatenate S2048x768 0
    [⟨S256x768, L0⟩, ⟨S256x768, L1⟩, ⟨S256x768, L2⟩, ⟨S256x768, L3⟩, ⟨S256x768, L4⟩, ⟨S256x768, L5⟩, ⟨S256x768, L6⟩, ⟨S256x768, L7⟩]
    concatenates_S256x768_S256x768_S256x768_S256x768_S256x768_S256x768_S256x768_S256x768_S2048x768_d0

variable (x0 : Vec Ideal S1x2048x768 .bf16) (x2 x3 x4 x5 : Vec Ideal S768x768 .bf16) (x6 x7 x8 x9 : Vec Ideal S1x768 .f32)
  (r : Vec Ideal S1x2048 .i32)

/-- The logits of all the bytes. -/
def allLogits : FVec Ideal S2048x8 .f32 :=
  catHeads
    (logits x0 x2 x3 x6 x7 r 0 slices_S2048x1_o0_0_S256x1 slices_S2048x768_o0_0_S256x768)
    (logits x0 x2 x3 x6 x7 r 256 slices_S2048x1_o256_0_S256x1 slices_S2048x768_o256_0_S256x768)
    (logits x0 x2 x3 x6 x7 r 512 slices_S2048x1_o512_0_S256x1 slices_S2048x768_o512_0_S256x768)
    (logits x0 x2 x3 x6 x7 r 768 slices_S2048x1_o768_0_S256x1 slices_S2048x768_o768_0_S256x768)
    (logits x0 x2 x3 x6 x7 r 1024 slices_S2048x1_o1024_0_S256x1 slices_S2048x768_o1024_0_S256x768)
    (logits x0 x2 x3 x6 x7 r 1280 slices_S2048x1_o1280_0_S256x1 slices_S2048x768_o1280_0_S256x768)
    (logits x0 x2 x3 x6 x7 r 1536 slices_S2048x1_o1536_0_S256x1 slices_S2048x768_o1536_0_S256x768)
    (logits x0 x2 x3 x6 x7 r 1792 slices_S2048x1_o1792_0_S256x1 slices_S2048x768_o1792_0_S256x768)

/-- Each head's largest logit. -/
def largest : FVec Ideal S8 .f32 :=
  multiReduction .maximumf [0] S8 (allLogits x0 x2 x3 x6 x7 r) 0xFF800000#32 reduces_S2048x8_S8 (.inl rfl) rfl

/-- The exponentials, from the logits of all the bytes. -/
theorem expo_eq : expo (F := Ideal) x0 x2 x3 x6 x7 r
    = exp (subf (allLogits x0 x2 x3 x6 x7 r) (broadcastTo S2048x8 (shapeCast S1x8 (largest x0 x2 x3 x6 x7 r) shapeCasts_S8_S1x8) broadcasts_S1x8_S2048x8)) := rfl

/-- The weighted values of all the bytes, as the program names them. -/
def allValues : FVec Ideal S2048x768 .bf16 :=
  k0_pay48 (F := Ideal) (k0_pay10 x0) headMat (expo x0 x2 x3 x6 x7 r) (expo16 x0 x2 x3 x6 x7 r) (values0 x0 x2 x3 x4 x6 x7 x8 r) (values1 x0 x2 x3 x4 x6 x7 x8 r) (values2 x0 x2 x3 x4 x6 x7 x8 r) (values3 x0 x2 x3 x4 x6 x7 x8 r) (values4 x0 x2 x3 x4 x6 x7 x8 r) (values5 x0 x2 x3 x4 x6 x7 x8 r) (values6 x0 x2 x3 x4 x6 x7 x8 r) (k0_pay46 (k0_pay11 r)) (k0_pay47 r) x4 x8

/-- The weighted values of all the bytes, tile by tile. -/
theorem allValues_tiles : allValues x0 x2 x3 x4 x6 x7 x8 r = catValues
    (values x0 x4 x8 r (expo x0 x2 x3 x6 x7 r) 0 slices_S2048x1_o0_0_S256x1 slices_S2048x768_o0_0_S256x768 slices_S2048x8_o0_0_S256x8)
    (values x0 x4 x8 r (expo x0 x2 x3 x6 x7 r) 256 slices_S2048x1_o256_0_S256x1 slices_S2048x768_o256_0_S256x768 slices_S2048x8_o256_0_S256x8)
    (values x0 x4 x8 r (expo x0 x2 x3 x6 x7 r) 512 slices_S2048x1_o512_0_S256x1 slices_S2048x768_o512_0_S256x768 slices_S2048x8_o512_0_S256x8)
    (values x0 x4 x8 r (expo x0 x2 x3 x6 x7 r) 768 slices_S2048x1_o768_0_S256x1 slices_S2048x768_o768_0_S256x768 slices_S2048x8_o768_0_S256x8)
    (values x0 x4 x8 r (expo x0 x2 x3 x6 x7 r) 1024 slices_S2048x1_o1024_0_S256x1 slices_S2048x768_o1024_0_S256x768 slices_S2048x8_o1024_0_S256x8)
    (values x0 x4 x8 r (expo x0 x2 x3 x6 x7 r) 1280 slices_S2048x1_o1280_0_S256x1 slices_S2048x768_o1280_0_S256x768 slices_S2048x8_o1280_0_S256x8)
    (values x0 x4 x8 r (expo x0 x2 x3 x6 x7 r) 1536 slices_S2048x1_o1536_0_S256x1 slices_S2048x768_o1536_0_S256x768 slices_S2048x8_o1536_0_S256x8)
    (values x0 x4 x8 r (expo x0 x2 x3 x6 x7 r) 1792 slices_S2048x1_o1792_0_S256x1 slices_S2048x768_o1792_0_S256x768 slices_S2048x8_o1792_0_S256x8) := rfl

variable {x0 x2 x3 x4 x5 x6 x7 x8 x9 r} {I : Inp} (H : Holds x0 x2 x3 x4 x5 x6 x7 x8 x9 r I)
include H

/-- The logits of all the bytes. -/
theorem allLogits_eq (j : Fin 2048) (g : Fin 8) : allLogits x0 x2 x3 x6 x7 r (ix2 j g) = (I.lgt j g : EReal) := by
  pointwise [allLogits, catHeads]
  have tile := fun (o : ℕ) h h' (i : Fin 256) (j : Fin 2048) (hj : j.val = o + i.val) => logits_eq H o h h' i g j hj
  exact eight_tiles (V := fun j => (I.lgt j g : EReal)) (tile 0 _ _) (tile 256 _ _) (tile 512 _ _) (tile 768 _ _)
    (tile 1024 _ _) (tile 1280 _ _) (tile 1536 _ _) (tile 1792 _ _) j

/-- Each head's largest logit. -/
theorem largest_eq (g : Fin 8) : largest x0 x2 x3 x6 x7 r (ix1 g) = (I.top g : EReal) := by
  unfold largest
  refine (Ideal.multiReduction_maximumf_single _ _ _ _ _ _).trans ?_
  refine Eq.trans ?_ ((congrArg (fun v => Finset.univ.fold max v _) bot_bits).trans (I.top_coe g))
  refine Finset.fold_congr fun l _ => ?_
  have hl : reduces_S2048x8_S8.lift (ix1 g) l = ix2 (l : Fin 2048) g := by
    funext a
    match a with
    | ⟨0, _⟩ => rfl
    | ⟨1, _⟩ => rfl
  rw [Function.comp_apply, hl]
  exact allLogits_eq H l g

/-- The exponentials, shifted by each head's largest logit. -/
theorem expo_value (j : Fin 2048) (g : Fin 8) :
    expo (F := Ideal) x0 x2 x3 x6 x7 r (ix2 j g) = (Real.exp (I.lgt j g - I.top g) : EReal) := by
  rw [expo_eq]
  pointwise []
  rw [allLogits_eq H, largest_eq H, ← EReal.coe_sub]
  rfl

/-- The weighted values. -/
theorem allValues_eq (j : Fin 2048) (d : Fin 768) :
    allValues x0 x2 x3 x4 x6 x7 x8 r (ix2 j d)
      = ((Real.exp (I.lgt j (headOf d) - I.top (headOf d)) / max (I.den (I.top (headOf d)) (I.sg j) (headOf d)) tiny : ℝ) : EReal) * I.val j d := by
  rw [allValues_tiles]
  pointwise [catValues]
  have tile := fun (o : ℕ) h h' h'' (i : Fin 256) (j : Fin 2048) (hj : j.val = o + i.val) => values_eq H (T := I.top) (expo_value H) o h h' h'' i d j hj
  exact eight_tiles (V := fun j => ((Real.exp (I.lgt j (headOf d) - I.top (headOf d)) / max (I.den (I.top (headOf d)) (I.sg j) (headOf d)) tiny : ℝ) : EReal) * I.val j d)
    (tile 0 _ _ _) (tile 256 _ _ _) (tile 512 _ _ _) (tile 768 _ _ _)
    (tile 1024 _ _ _) (tile 1280 _ _ _) (tile 1536 _ _ _) (tile 1792 _ _ _) j

end Cert.KernelIdeal.Hand

end
-- ==== Proof.Counts.lean ====
module

public import proofs.«01_k».proof.Proof.Expo
public import proofs.«01_k».proof.Proof.Segments

/-! The segment numbers the kernel stores. -/

@[expose] public section

noncomputable section

namespace Cert.KernelIdeal.Hand

open Idealize.ShloMosaic Cert.KernelIdeal.Gen Cert.Proof

/-- Row `b` of the marks block. -/
def rowMarks (x1 : Vec Ideal S8x1x2048 .i32) (b : Fin 8) (j : Fin 2048) : BitVec 32 := x1 (ix3 b 0 j)

/-- The marks, as numbers. -/
theorem marks_eq (x1 : Vec Ideal S8x1x2048 .i32) (b : Fin 8) (j : Fin 2048) :
    k0_pay3 (F := Ideal) x1 (ix2 b j) = ((mark (rowMarks x1 b) j.val : ℝ) : EReal) := by
  pointwise [k0_pay3]
  have e : IntOp.cmpi .ne (x1 (ix3 b 0 j)) 0#32 = BitVec.ofBool (decide (x1 (ix3 b 0 j) ≠ 0#32)) := by
    show BitVec.ofBool (x1 (ix3 b 0 j) != 0#32) = _
    congr 1
    by_cases h : x1 (ix3 b 0 j) = 0#32
    · simp [h]
    · rw [bne_iff_ne.2 h, decide_eq_true h]
  rw [e, sitofp_ofBool]
  unfold mark
  rw [dif_pos j.isLt]
  show _ = (((if x1 (ix3 b 0 j) = 0#32 then 0 else 1 : ℕ) : ℝ) : EReal)
  by_cases h : x1 (ix3 b 0 j) = 0#32 <;> simp [h]

/-- One tile of the running counts: the marks against the positions up to each of the tile's. -/
def countTile (x1 : Vec Ideal S8x1x2048 .i32) (o : ℕ) : FVec Ideal S8x256 .f32 :=
  matmul dot_S8x2048_S2048x256_S8x256_1_0_0_1_n_n none (k0_pay3 (F := Ideal) x1)
    (truncf .bf16 (sitofp .f32 (extui 32 (cmpi .sle (iota .tc S2048x256 32 [0] iota_S2048x256_d0_w32)
      (addi (iota .tc S2048x256 32 [1] iota_S2048x256_d1_w32) (broadcast S2048x256 (BitVec.ofNat 32 o)))) natLt_1_32)) bitsLt_bf16_f32)
    (constant S8x256 .f32 0x00000000#32)

/-- The marks up to a position, as a sum over all positions. -/
theorem sum_upto (f : ℕ → ℕ) (j : Fin 2048) :
    ∑ k : Fin 2048, (f k.val : ℝ) * (if k.val ≤ j.val then 1 else 0 : ℝ) = ((∑ i ∈ Finset.range (j.val + 1), f i : ℕ) : ℝ) := by
  rw [Fin.sum_univ_eq_sum_range (fun k => (f k : ℝ) * (if k ≤ j.val then 1 else 0 : ℝ)) 2048]
  push_cast
  rw [← Finset.sum_subset (Finset.range_subset_range.2 (show j.val + 1 ≤ 2048 by omega))]
  · refine Finset.sum_congr rfl fun i hi => ?_
    rw [if_pos (by have := Finset.mem_range.1 hi; omega), mul_one]
  · intro i _ hi
    rw [if_neg (fun h => hi (Finset.mem_range.2 (Nat.lt_succ_of_le h))), mul_zero]

/-- A tile's count: the marks up to the position. -/
theorem countTile_eq (x1 : Vec Ideal S8x1x2048 .i32) (b : Fin 8) (o : ℕ) (i : Fin 256) (j : Fin 2048) (hj : j.val = o + i.val) :
    countTile x1 o (ix2 b i) = ((segNat (rowMarks x1 b) j.val + mark (rowMarks x1 b) 0 : ℕ) : ℝ) := by
  rw [← sum_mark, ← sum_upto (mark (rowMarks x1 b)) j, coe_sum]
  pointwise [countTile]
  refine Finset.sum_congr rfl fun k _ => ?_
  have e : IntOp.addi (BitVec.ofNat 32 i.val) (BitVec.ofNat 32 o) = BitVec.ofNat 32 j.val := by
    show BitVec.ofNat 32 i.val + BitVec.ofNat 32 o = _
    rw [← BitVec.ofNat_add, hj, Nat.add_comm]
  rw [marks_eq, e, WordCmp.cmpi_sle_ofNat (by omega) (by omega), sitofp_ofBool, EReal.coe_mul]
  simp only [decide_eq_true_eq]

/-- The stored numbers, from the tiles. -/
theorem segOf_tiles (x1 : Vec Ideal S8x1x2048 .i32) :
    segOf x1 = shapeCast S8x2048 (fptosi 32 (subf
      (concatenate S8x2048 1 [⟨S8x256, countTile x1 0⟩, ⟨S8x256, countTile x1 256⟩, ⟨S8x256, countTile x1 512⟩, ⟨S8x256, countTile x1 768⟩,
        ⟨S8x256, countTile x1 1024⟩, ⟨S8x256, countTile x1 1280⟩, ⟨S8x256, countTile x1 1536⟩, ⟨S8x256, countTile x1 1792⟩]
        concatenates_S8x256_S8x256_S8x256_S8x256_S8x256_S8x256_S8x256_S8x256_S8x2048_d1)
      (broadcastTo S8x2048 (extf .f32 (extractStridedSlice S8x1 ![0, 0] (k0_pay3 (F := Ideal) x1) slices_S8x2048_o0_0_S8x1) bitsLt_bf16_f32)
        broadcasts_S8x1_S8x2048))) shapeCasts_S8x2048_S8x2048 := by
  rfl

/-- A natural number, converted to a word. -/
theorem fptosi_nat (n : ℕ) (h : n < 2 ^ 31) : FloatOps.fptosi (F := Ideal) (φ := .f32) 32 ((n : ℝ) : EReal) = BitVec.ofNat 32 n := by
  show BitVec.ofInt 32 (Ideal.toIntClamped (-(2 ^ (32 - 1))) (2 ^ (32 - 1) - 1) ((n : ℝ) : EReal)) = _
  rw [Ideal.toIntClamped_coe, if_pos (Nat.cast_nonneg n), Int.floor_natCast, ← BitVec.ofInt_natCast]
  congr 1
  omega

/-- The stored numbers are the segments. -/
theorem segOf_eq (x1 : Vec Ideal S8x1x2048 .i32) (b : Fin 8) (j : Fin 2048) :
    segOf x1 (ix2 b j) = BitVec.ofNat 32 (seg (rowMarks x1 b) j).val := by
  rw [segOf_tiles]
  pointwise []
  rw [marks_eq]
  refine (congrArg (fun v : EReal => FloatOps.fptosi (F := Ideal) (φ := .f32) 32 (v - ((mark (rowMarks x1 b) 0 : ℝ) : EReal))) (eight_tiles
    (V := fun j => (((segNat (rowMarks x1 b) j.val + mark (rowMarks x1 b) 0 : ℕ) : ℝ) : EReal))
    (countTile_eq x1 b 0) (countTile_eq x1 b 256) (countTile_eq x1 b 512) (countTile_eq x1 b 768)
    (countTile_eq x1 b 1024) (countTile_eq x1 b 1280) (countTile_eq x1 b 1536) (countTile_eq x1 b 1792) j)).trans ?_
  show FloatOps.fptosi (F := Ideal) (φ := .f32) 32 ((((segNat (rowMarks x1 b) j.val + mark (rowMarks x1 b) 0 : ℕ) : ℝ) : EReal) - ((mark (rowMarks x1 b) 0 : ℝ) : EReal)) = _
  rw [← EReal.coe_sub, Nat.cast_add, add_sub_cancel_right]
  exact fptosi_nat _ (by have := segNat_le (rowMarks x1 b) j.val; omega)

end Cert.KernelIdeal.Hand

end
-- ==== Proof.Out.lean ====
module

public import proofs.«01_k».proof.Proof.Expo
public import Idealize.ShloMosaic.Lib.Pipeline.ValueKit.Tiles

/-! The output block of one grid point. -/

@[expose] public section

noncomputable section

namespace Cert.KernelIdeal.Hand

open Idealize.ShloMosaic Cert.KernelIdeal.Gen Cert.Proof

/-- The segment numbers never exceed the byte's position, and take every value up to the last byte's. -/
structure Ordered (I : Inp) : Prop where
  le : ∀ j, (I.sg j).val ≤ j.val
  onto : ∀ s : Fin 2048, (∃ j, I.sg j = s) ↔ s.val ≤ (I.sg 2047).val

/-- The output of a segment: its attention, projected, or zero when no byte has the segment. -/
def outVal (I : Inp) (s : Fin 2048) (c : Fin 768) : EReal :=
  if 0 < I.cnt s then I.proj (fun d => I.attn (I.top (headOf d)) s d) c else 0

/-- The number of tiles in use when the last segment number is `n`. -/
theorem tilesUsed_eq (n : Fin 2048) : tilesUsed (BitVec.ofNat 32 n.val) = BitVec.ofNat 32 (n.val / 256 + 1) := by
  revert n
  decide +kernel

/-- Which tiles are in use. -/
theorem used_eq (m : Fin 8) (t : Fin 8) : used (BitVec.ofNat 32 (m.val + 1)) (BitVec.ofNat 32 t.val) ↔ t.val ≤ m.val := by
  revert m t
  decide +kernel

variable {x0 : Vec Ideal S1x2048x768 .bf16} {x2 x3 x4 x5 : Vec Ideal S768x768 .bf16} {x6 x7 x8 x9 : Vec Ideal S1x768 .f32}
  {r : Vec Ideal S1x2048 .i32} {I : Inp} (H : Holds x0 x2 x3 x4 x5 x6 x7 x8 x9 r I) (O : Ordered I)
include H

/-- The last segment number. -/
theorem lastSeg_eq : lastSeg (F := Ideal) r = BitVec.ofNat 32 (I.sg 2047).val := by
  refine Eq.trans ?_ (H.sg 2047)
  pointwise [lastSeg, k0_pay12]

include O

/-- A segment's weighted values, summed over the bytes from `o` on, when the segment is one of those from `o`. -/
theorem attn_tile {K : ℕ} (o : ℕ) (hK : o + K = 2048) (p : Fin K → Fin 2048) (hp : ∀ l, (p l).val = o + l.val) (i : Fin 256) (s : Fin 2048)
    (hs : s.val = o + i.val) (d : Fin 768) :
    (∑ l : Fin K, FloatOps.sitofp (F := Ideal) .f32 (BitVec.setWidth 32 (IntOp.cmpi .eq (IntOp.addi (BitVec.ofNat 32 i.val) (BitVec.ofNat 32 o)) (r (ix2 0 (p l)))))
        * allValues x0 x2 x3 x4 x6 x7 x8 r (ix2 (p l) d)) = I.attn (I.top (headOf d)) s d := by
  rw [I.attn_eq_sum]
  refine Fintype.sum_of_injective p ?_ _ _ ?_ ?_
  · intro a b e
    have := congrArg Fin.val e
    rw [hp, hp] at this
    exact Fin.ext (by omega)
  · intro j hj
    rw [if_neg]
    intro e
    have le := O.le j
    rw [e] at le
    exact hj ⟨⟨j.val - o, by omega⟩, Fin.ext (by rw [hp]; show o + (j.val - o) = j.val; omega)⟩
  · intro l
    have a : IntOp.addi (BitVec.ofNat 32 i.val) (BitVec.ofNat 32 o) = BitVec.ofNat 32 s.val := by
      rw [hs, Nat.add_comm]
      exact (BitVec.ofNat_add ..).symm
    rw [a, H.sg, sitofp_eq (by omega) (by omega), allValues_eq H]
    by_cases e : I.sg (p l) = s
    · rw [if_pos e, if_pos (congrArg Fin.val e.symm), EReal.coe_one, one_mul]
    · rw [if_neg e, if_neg fun h => e (Fin.ext h.symm), EReal.coe_zero, zero_mul]

/-- One entry of a tile of the output, as a tile in use computes it. -/
theorem out_tile {K : ℕ} (o : ℕ) (hK : o + K = 2048) (p : Fin K → Fin 2048) (hp : ∀ l, (p l).val = o + l.val) (i : Fin 256) (c : Fin 768) (s : Fin 2048)
    (hs : s.val = o + i.val) :
    Scalar.select (IntOp.cmpi .sle (IntOp.addi (BitVec.ofNat 32 i.val) (BitVec.ofNat 32 o)) (lastSeg (F := Ideal) r))
      ((∑ d, (∑ l : Fin K, FloatOps.sitofp (F := Ideal) .f32 (BitVec.setWidth 32 (IntOp.cmpi .eq (IntOp.addi (BitVec.ofNat 32 i.val) (BitVec.ofNat 32 o)) (r (ix2 0 (p l)))))
        * allValues x0 x2 x3 x4 x6 x7 x8 r (ix2 (p l) d)) * x5 (ix2 d c)) + x9 (ix2 0 c)) (0 : EReal) = outVal I s c := by
  have a : IntOp.addi (BitVec.ofNat 32 i.val) (BitVec.ofNat 32 o) = BitVec.ofNat 32 s.val := by
    rw [hs, Nat.add_comm]
    exact (BitVec.ofNat_add ..).symm
  have e : ((∑ d, (∑ l : Fin K, FloatOps.sitofp (F := Ideal) .f32 (BitVec.setWidth 32 (IntOp.cmpi .eq (IntOp.addi (BitVec.ofNat 32 i.val) (BitVec.ofNat 32 o)) (r (ix2 0 (p l)))))
        * allValues x0 x2 x3 x4 x6 x7 x8 r (ix2 (p l) d)) * x5 (ix2 d c)) + x9 (ix2 0 c)) = I.proj (fun d => I.attn (I.top (headOf d)) s d) c := by
    rw [H.bo, Inp.proj]
    refine congrArg₂ HAdd.hAdd (Finset.sum_congr rfl fun d _ => ?_) rfl
    rw [attn_tile H O o hK p hp i s hs d, H.wo]
  rw [e, a, lastSeg_eq H, WordCmp.cmpi_sle_ofNat (by omega) (by omega), WordCmp.select_decide, outVal]
  exact if_congr ((O.onto s).symm.trans (I.cnt_pos_iff s).symm) rfl rfl

/-- A tile of the output: its entries when it is in use, zeros when it is not. -/
theorem out_piece (t : Fin 8) (w w' : FVec Ideal S1x256x768 .f32)
    (h : ∀ i c s, s.val = 256 * t.val + i.val → w (ix3 0 i c) = outVal I s c) (h' : ∀ i c, w' (ix3 0 i c) = (0 : EReal))
    (s : Fin 2048) (c : Fin 768) :
    View.TileAt (S := S1x2048x768) (Val := Elt Ideal) (e := .f32) (ix3 0 s c) ![0, 256 * t.val, 0] S1x256x768.size
      (if used (tilesUsed (lastSeg (F := Ideal) r)) (BitVec.ofNat 32 t.val) then w else w') (outVal I s c) := by
  intro x hx
  have hx1 : s.val = 256 * t.val + (x 1).val := hx 1
  have hx2 : c.val = 0 + (x 2).val := hx 2
  have e : x = ix3 0 (x 1) c := by
    funext a
    match a with
    | ⟨0, _⟩ => exact Subsingleton.elim (α := Fin 1) _ _
    | ⟨1, _⟩ => rfl
    | ⟨2, _⟩ => exact Fin.ext (show (x 2).val = c.val by omega)
  rw [e]
  split
  · exact h _ _ _ hx1
  · rename_i n
    rw [lastSeg_eq H, tilesUsed_eq, used_eq ⟨(I.sg 2047).val / 256, by omega⟩ t] at n
    refine (h' _ _).trans ?_
    rw [outVal, if_neg]
    rw [I.cnt_pos_iff, O.onto]
    have : (⟨(I.sg 2047).val / 256, by omega⟩ : Fin 8).val = (I.sg 2047).val / 256 := rfl
    omega

/-- Tile 0 of the output. -/
theorem tile0 (i : Fin 256) (c : Fin 768) (s : Fin 2048) (hs : s.val = 0 + i.val) :
    k0_pay49 (F := Ideal) (k0_pay10 x0) r (lastSeg r) headMat (expo x0 x2 x3 x6 x7 r) (expo16 x0 x2 x3 x6 x7 r) (values0 x0 x2 x3 x4 x6 x7 x8 r) (values1 x0 x2 x3 x4 x6 x7 x8 r) (values2 x0 x2 x3 x4 x6 x7 x8 r) (values3 x0 x2 x3 x4 x6 x7 x8 r) (values4 x0 x2 x3 x4 x6 x7 x8 r) (values5 x0 x2 x3 x4 x6 x7 x8 r) (values6 x0 x2 x3 x4 x6 x7 x8 r) (k0_pay46 (k0_pay11 r)) (k0_pay47 r) x4 x8 x5 x9 (ix3 0 i c)
      = outVal I s c := by
  unfold k0_pay49
  rw [← allValues.eq_1]
  pointwise []
  exact out_tile H O 0 rfl (fun l => l) (fun l => (Nat.zero_add _).symm) i c s hs

/-- Tile 1 of the output. -/
theorem tile1 (i : Fin 256) (c : Fin 768) (s : Fin 2048) (hs : s.val = 256 + i.val) :
    k0_pay51 (F := Ideal) (k0_pay10 x0) r (lastSeg r) headMat (expo x0 x2 x3 x6 x7 r) (expo16 x0 x2 x3 x6 x7 r) (values0 x0 x2 x3 x4 x6 x7 x8 r) (values1 x0 x2 x3 x4 x6 x7 x8 r) (values2 x0 x2 x3 x4 x6 x7 x8 r) (values3 x0 x2 x3 x4 x6 x7 x8 r) (values4 x0 x2 x3 x4 x6 x7 x8 r) (values5 x0 x2 x3 x4 x6 x7 x8 r) (values6 x0 x2 x3 x4 x6 x7 x8 r) (k0_pay46 (k0_pay11 r)) (k0_pay47 r) x4 x8 x5 x9 (ix3 0 i c)
      = outVal I s c := by
  unfold k0_pay51
  rw [← allValues.eq_1]
  pointwise []
  exact out_tile H O 256 rfl (fun l => ⟨256 + l.val, by omega⟩) (fun l => rfl) i c s hs

/-- Tile 2 of the output. -/
theorem tile2 (i : Fin 256) (c : Fin 768) (s : Fin 2048) (hs : s.val = 512 + i.val) :
    k0_pay53 (F := Ideal) r (lastSeg r) (allValues x0 x2 x3 x4 x6 x7 x8 r) (iota .tc S256x1 32 [0] iota_S256x1_d0_w32) x5 x9 (ix3 0 i c)
      = outVal I s c := by
  pointwise [k0_pay53]
  exact out_tile H O 512 rfl (fun l => ⟨512 + l.val, by omega⟩) (fun l => rfl) i c s hs

/-- Tile 3 of the output. -/
theorem tile3 (i : Fin 256) (c : Fin 768) (s : Fin 2048) (hs : s.val = 768 + i.val) :
    k0_pay55 (F := Ideal) r (lastSeg r) (allValues x0 x2 x3 x4 x6 x7 x8 r) (iota .tc S256x1 32 [0] iota_S256x1_d0_w32) x5 x9 (ix3 0 i c)
      = outVal I s c := by
  pointwise [k0_pay55]
  exact out_tile H O 768 rfl (fun l => ⟨768 + l.val, by omega⟩) (fun l => rfl) i c s hs

/-- Tile 4 of the output. -/
theorem tile4 (i : Fin 256) (c : Fin 768) (s : Fin 2048) (hs : s.val = 1024 + i.val) :
    k0_pay57 (F := Ideal) r (lastSeg r) (allValues x0 x2 x3 x4 x6 x7 x8 r) (iota .tc S256x1 32 [0] iota_S256x1_d0_w32) x5 x9 (ix3 0 i c)
      = outVal I s c := by
  pointwise [k0_pay57]
  exact out_tile H O 1024 rfl (fun l => ⟨1024 + l.val, by omega⟩) (fun l => rfl) i c s hs

/-- Tile 5 of the output. -/
theorem tile5 (i : Fin 256) (c : Fin 768) (s : Fin 2048) (hs : s.val = 1280 + i.val) :
    k0_pay59 (F := Ideal) r (lastSeg r) (allValues x0 x2 x3 x4 x6 x7 x8 r) (iota .tc S256x1 32 [0] iota_S256x1_d0_w32) x5 x9 (ix3 0 i c)
      = outVal I s c := by
  pointwise [k0_pay59]
  exact out_tile H O 1280 rfl (fun l => ⟨1280 + l.val, by omega⟩) (fun l => rfl) i c s hs

/-- Tile 6 of the output. -/
theorem tile6 (i : Fin 256) (c : Fin 768) (s : Fin 2048) (hs : s.val = 1536 + i.val) :
    k0_pay61 (F := Ideal) r (lastSeg r) (allValues x0 x2 x3 x4 x6 x7 x8 r) (iota .tc S256x1 32 [0] iota_S256x1_d0_w32) x5 x9 (ix3 0 i c)
      = outVal I s c := by
  pointwise [k0_pay61]
  exact out_tile H O 1536 rfl (fun l => ⟨1536 + l.val, by omega⟩) (fun l => rfl) i c s hs

/-- Tile 7 of the output. -/
theorem tile7 (i : Fin 256) (c : Fin 768) (s : Fin 2048) (hs : s.val = 1792 + i.val) :
    k0_pay1 (F := Ideal) r (lastSeg r) (allValues x0 x2 x3 x4 x6 x7 x8 r) (iota .tc S256x1 32 [0] iota_S256x1_d0_w32) x5 x9 (ix3 0 i c)
      = outVal I s c := by
  pointwise [k0_pay1]
  exact out_tile H O 1792 rfl (fun l => ⟨1792 + l.val, by omega⟩) (fun l => rfl) i c s hs

/-- The output block of one grid point. -/
theorem out_eq (x1 : Vec Ideal S8x1x2048 .i32) (s : Fin 2048) (c : Fin 768) :
    outOf (F := Ideal) x0 x1 x2 x3 x4 x5 x6 x7 x8 x9 r (ix3 0 s c) = outVal I s c := by
  refine View.canon_eq_of_allAt _ _ _ (out_cover _ _ _ _ _ _ _ _ _ _ _ _) ?_
  refine View.allAt_cons_unit _ _ _ _ _ (out_piece H O 7 _ _ (tile7 H O) (fun i c => by pointwise [k0_pay2]) s c) ?_
  refine View.allAt_cons_unit _ _ _ _ _ (out_piece H O 6 _ _ (tile6 H O) (fun i c => by pointwise [k0_pay62]) s c) ?_
  refine View.allAt_cons_unit _ _ _ _ _ (out_piece H O 5 _ _ (tile5 H O) (fun i c => by pointwise [k0_pay60]) s c) ?_
  refine View.allAt_cons_unit _ _ _ _ _ (out_piece H O 4 _ _ (tile4 H O) (fun i c => by pointwise [k0_pay58]) s c) ?_
  refine View.allAt_cons_unit _ _ _ _ _ (out_piece H O 3 _ _ (tile3 H O) (fun i c => by pointwise [k0_pay56]) s c) ?_
  refine View.allAt_cons_unit _ _ _ _ _ (out_piece H O 2 _ _ (tile2 H O) (fun i c => by pointwise [k0_pay54]) s c) ?_
  refine View.allAt_cons_unit _ _ _ _ _ (out_piece H O 1 _ _ (tile1 H O) (fun i c => by pointwise [k0_pay52]) s c) ?_
  refine View.allAt_cons_unit _ _ _ _ _ (out_piece H O 0 _ _ (tile0 H O) (fun i c => by pointwise [k0_pay50]) s c) ?_
  exact View.allAt_nil _ _

end Cert.KernelIdeal.Hand

end
-- ==== Proof.RefValue.lean ====
module

public import proofs.«01_k».proof.Proof.RefLogits
public import Idealize.ShloMosaic.PureOps.Ideal.Laws

/-! The reference's result, as real numbers. -/

@[expose] public section

noncomputable section

namespace Cert.Proof

open Idealize.ShloMosaic Cert.ReferenceIdeal Cert.ReferenceIdeal.Read

section

variable {x0 : FVec Ideal S8x2048x768 .f32} {x1 : IVec S8x2048 32} {x2 x3 x4 x8 : FVec Ideal S768x768 .f32}
    {x5 x6 x7 x9 : FVec Ideal S768 .f32} {b : Fin 8} {I : Inp} (R : Reads x0 x1 x2 x3 x4 x8 x5 x6 x7 x9 b I)
include R

/-- The comparison of a position's segment with a number. -/
theorem own_word (l s : Fin 2048) :
    IntOp.cmpi .eq (val_main_v6 (F := Ideal) x1 (ix2 b l)) (BitVec.ofNat 32 s.val) = BitVec.ofBool (decide (I.sg l = s)) := by
  have h1 := (segNat_le (row x1 b) l).trans_lt l.isLt
  rw [seg_word, R.sg]
  show BitVec.ofBool (BitVec.ofNat 32 _ == BitVec.ofNat 32 _) = _
  congr 1
  rw [Bool.eq_iff_iff, beq_iff_eq, decide_eq_true_iff, Fin.ext_iff]
  show _ ↔ segNat (row x1 b) l = s.val
  constructor
  · intro q
    have := congrArg BitVec.toNat q
    simp only [BitVec.toNat_ofNat] at this
    omega
  · intro q; rw [q]

/-- A segment's logits: minus infinity off its positions. -/
theorem ref_masked (s l : Fin 2048) (g : Fin 8) :
    val_main_v92 (F := Ideal) x0 x1 x2 x3 x5 x6 (ix4 b s l g) = if I.sg l = s then (I.lgt l g : EReal) else ⊥ := by
  pointwise [val_main_v92, val_main_call1_v1, val_main_call1_v2, val_main_call1_v3, val_main_call1_v0, val_main_cst_17, val_main_v90, val_main_v89, val_main_v91, val_main_v87, val_main_v88, val_main_v84, val_main_v86, val_main_v85]
  rw [own_word R, ref_lgt R, WordCmp.select_decide]
  exact congrArg (ite _ _) bot_bits

/-- A segment with a position is shifted by the logit of one of its positions. -/
theorem ref_top (s : Fin 2048) (hs : 0 < I.cnt s) (g : Fin 8) :
    ∃ j, I.sg j = s ∧ val_main_v97 (F := Ideal) x0 x1 x2 x3 x5 x6 (ix3 b s g) = (I.lgt j g : EReal) := by
  obtain ⟨j, hj⟩ := I.exists_of_cnt_pos s hs
  have e : val_main_v93 (F := Ideal) x0 x1 x2 x3 x5 x6 (ix3 b s g)
      = Finset.univ.fold max ⊥ fun l => if I.sg l = s then (I.lgt l g : EReal) else ⊥ := by
    unfold val_main_v93
    have h : S8x2048x2048x8.Reduces [2] S8x2048x8 := by decide
    refine (Host.reduce_eq_fold_single (FloatOps.maximumf (F := Ideal) (φ := .f32)) _ _ _ h _ _).trans ?_
    refine Eq.trans ?_ (congrArg (fun v => Finset.univ.fold max v _) bot_bits)
    refine Finset.fold_congr fun l _ => ?_
    have hl : h.lift (ix3 b s g) l = ix4 b s (l : Fin 2048) g := by
      funext a
      match a with
      | ⟨0, _⟩ => rfl
      | ⟨1, _⟩ => rfl
      | ⟨2, _⟩ => rfl
      | ⟨3, _⟩ => rfl
    rw [Function.comp_apply, hl]
    exact ref_masked R s l g
  pointwise [val_main_v97, val_main_call2_v1, val_main_call2_v2, val_main_call2_v0, val_main_cst_20, val_main_v96, val_main_v94, val_main_v95, val_main_cst_19]
  rw [ref_cnt R, e]
  obtain ⟨i, ei, le⟩ := fold_max_mem (fun l => if I.sg l = s then (I.lgt l g : EReal) else ⊥) j
  rw [ei]
  rw [if_pos hj] at le
  by_cases q : I.sg i = s
  · exact ⟨i, q, by rw [if_pos (EReal.coe_pos.2 hs), if_pos q]⟩
  · rw [if_neg q] at le
    exact absurd (le_bot_iff.1 le) (EReal.coe_ne_bot _)

omit R in
/-- The reference's shift of a segment, per head. -/
def refTop (x0 : FVec Ideal S8x2048x768 .f32) (x1 : IVec S8x2048 32) (x2 x3 : FVec Ideal S768x768 .f32)
    (x5 x6 : FVec Ideal S768 .f32) (b : Fin 8) (s : Fin 2048) (g : Fin 8) : ℝ :=
  (val_main_v97 (F := Ideal) x0 x1 x2 x3 x5 x6 (ix3 b s g)).toReal

/-- A nonempty segment's denominator under the reference's shift is not below the least one. -/
theorem ref_tiny (s : Fin 2048) (hs : 0 < I.cnt s) (g : Fin 8) : tiny ≤ I.den (refTop x0 x1 x2 x3 x5 x6 b s g) s g := by
  obtain ⟨j, hj, e⟩ := ref_top R s hs g
  rw [refTop, e, EReal.toReal_coe, ← hj]
  exact tiny_le_one.trans (I.one_le_den j g)

/-- The exponentials. -/
theorem ref_exp (j : Fin 2048) (g : Fin 8) : val_main_v114 (F := Ideal) x0 x1 x2 x3 x5 x6 (ix3 b j g)
    = ((Real.exp (I.lgt j g - refTop x0 x1 x2 x3 x5 x6 b (I.sg j) g) : ℝ) : EReal) := by
  have hs : 0 < I.cnt (I.sg j) := lt_of_lt_of_le one_pos (I.one_le_cnt j)
  obtain ⟨i, _, e⟩ := ref_top R (I.sg j) hs g
  have eg : val_main_v112 (F := Ideal) x0 x1 x2 x3 x5 x6 (ix3 b j g) = (I.lgt i g : EReal) := by
    refine (gather3 _ _ (addressed x1) _ b j g).trans ?_
    rw [← e, R.sg]
  pointwise [val_main_v114, val_main_v113]
  rw [ref_lgt R, eg, refTop, e, EReal.toReal_coe, ← EReal.coe_sub]
  rfl

/-- The denominators. -/
theorem ref_den (s : Fin 2048) (g : Fin 8) : val_main_v130 (F := Ideal) x0 x1 x2 x3 x5 x6 (ix3 b s g)
    = (I.den (refTop x0 x1 x2 x3 x5 x6 b s g) s g : EReal) := by
  unfold val_main_v130
  refine (scatter3 _ _ (addressed x1) _ _ _ b s g).trans ?_
  pointwise [val_main_v115, val_main_cst_25]
  rw [Inp.den, coe_sum]
  refine Finset.sum_congr rfl fun j _ => ?_
  rw [coe_ite, ref_exp R, ← R.sg]
  by_cases q : I.sg j = s
  · rw [if_pos q, if_pos q, q]
  · rw [if_neg q, if_neg q]; rfl

omit R in
theorem headOf_lane (g : Fin 8) (e : Fin 96) : headOf (lane g e) = g := by
  apply Fin.ext
  show (g.val * 96 + e.val) / 96 = g.val
  omega

omit R in
theorem lane_headOf (d : Fin 768) : lane ⟨d.val / 96, by omega⟩ ⟨d.val % 96, by omega⟩ = d := by
  apply Fin.ext
  show d.val / 96 * 96 + d.val % 96 = d.val
  omega

/-- The numerators. -/
theorem ref_num (s : Fin 2048) (g : Fin 8) (e : Fin 96) :
    val_main_v149 (F := Ideal) x0 x1 x2 x3 x4 x5 x6 x7 (ix4 b s g e)
    = I.num (refTop x0 x1 x2 x3 x5 x6 b s g) s (lane g e) := by
  unfold val_main_v149
  refine (scatter4 _ _ (addressed x1) _ _ b s g e).trans ?_
  pointwise [val_main_v134, val_main_cst_30, val_main_v133, val_main_v132, val_main_v131, val_main_v64]
  rw [Inp.num]
  refine Finset.sum_congr rfl fun j _ => ?_
  rw [ref_exp R, ← R.sg, headOf_lane, ← ref_val R]
  by_cases q : I.sg j = s
  · rw [if_pos q, if_pos q, q]; rfl
  · rw [if_neg q, if_neg q]

/-- The attended values. -/
theorem ref_attn (s : Fin 2048) (d : Fin 768) :
    val_main_v155 (F := Ideal) x0 x1 x2 x3 x4 x5 x6 x7 (ix3 b s d)
    = I.attn (refTop x0 x1 x2 x3 x5 x6 b s (headOf d)) s d := by
  pointwise [val_main_v155, val_main_v154, val_main_v153, val_main_v152, val_main_v151, val_main_v150, val_main_cst_35]
  rw [ref_num R, ref_den R, tiny_coe, coe_max, Ideal.div_coe (lt_of_lt_of_le tiny_pos (le_max_right _ _)).ne', lane_headOf]
  rfl

/-- The result, under any shift that leaves no nonempty segment's denominator below the least one. -/
theorem ref_out (T : Fin 8 → ℝ) (hT : ∀ s g, 0 < I.cnt s → tiny ≤ I.den (T g) s g) (s : Fin 2048) (c : Fin 768) :
    val_main_v164 (F := Ideal) x0 x1 x2 x3 x4 x5 x6 x7 x8 x9 (ix3 b s c)
    = if 0 < I.cnt s then I.proj (fun d => I.attn (T (headOf d)) s d) c else 0 := by
  pointwise [val_main_v164, val_main_call3_v1, val_main_call3_v2, val_main_call3_v0, val_main_cst_37, val_main_v163, val_main_v162, val_main_v161, val_main_cst_36, val_main_v160, val_main_v159, val_main_v158, val_main_v157, val_main_v156]
  rw [ref_cnt R]
  by_cases hs : 0 < I.cnt s
  · rw [if_pos (EReal.coe_pos.2 hs), if_pos hs, Inp.proj, R.bo]
    refine congrArg₂ HAdd.hAdd (Finset.sum_congr rfl fun d _ => ?_) rfl
    rw [ref_attn R, R.wo, I.attn_shift _ (T (headOf d)) s d (ref_tiny R s hs _) (hT s _ hs)]
  · rw [if_neg (fun q => hs (EReal.coe_pos.1 q)), if_neg hs]
    exact Ideal.ofBits_zero_f32

end

end Cert.Proof

end
-- ==== Proof.Final.lean ====
module

public import proofs.«01_k».proof.Proof.Blocks
public import proofs.«01_k».proof.Proof.Counts
public import proofs.«01_k».proof.Proof.Out
public import proofs.«01_k».proof.Proof.RefValue

/-! The array the kernel leaves. -/

@[expose] public section

noncomputable section

namespace Cert.KernelIdeal.Hand

open Idealize.ShloMosaic Idealize.ShloMosaic.TcCoe Cert.KernelIdeal.Gen Cert.Proof

/-- The row a grid point reads of the segment numbers. -/
theorem rowOf_eq (t : Fin cfg0.N) (b : Fin 8) (hb : b.val = t.val) (x : Vec Ideal S8x2048 .i32) (j : Fin 2048) :
    rowOf (grid0.coords t) x (ix2 0 j) = x (ix2 b j) := by
  have e : ∀ t : Fin grid0.N, k0_off1 (grid0.coords t) = ![t.val, 0] := by decide +kernel
  refine View.ld_unit_apply_of (Val := Elt Ideal) (e := .i32) x (k0_off1 (grid0.coords t)) S1x2048.size _ (ix2 0 j) (ix2 b j) fun a => ?_
  refine Eq.trans ?_ (congrArg (fun o : Fin 2 → ℕ => o a + (ix2 (n0 := 1) (n1 := 2048) 0 j a).val) (e t).symm)
  match a with
  | ⟨0, _⟩ => exact hb
  | ⟨1, _⟩ => show j.val = 0 + j.val; omega

/-- Segment numbers are ordered. -/
theorem ordered (I : Inp) (w : Fin 2048 → BitVec 32) (h : I.sg = seg w) : Ordered I where
  le j := by rw [h]; exact segNat_le w j.val
  onto s := by
    rw [h]
    constructor
    · rintro ⟨j, rfl⟩
      exact segNat_mono w (by have := j.isLt; show j.val ≤ 2047; omega)
    · intro hs
      obtain ⟨i, hi, e⟩ := segNat_onto w s.val 2047 hs
      exact ⟨⟨i, by omega⟩, Fin.ext e⟩

variable (m : (ℓ : Loc nD τ sig) → Buf (Elt Ideal) ℓ) (c : Dev nD)

/-- The arguments hold the inputs `I` in batch row `b`. -/
abbrev ReadsAt (b : Fin 8) (I : Inp) : Prop :=
  Reads (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg8))
    (m ((c : Thread nD τ).loc main_arg5)) (m ((c : Thread nD τ).loc main_arg6)) (m ((c : Thread nD τ).loc main_arg7))
    (m ((c : Thread nD τ).loc main_arg9)) b I

/-- The blocks of the grid point of batch row `b` hold the row's inputs. -/
theorem holds (t : Fin cfg0.N) (b : Fin 8) (hb : b.val = t.val) {I : Inp} (R : ReadsAt m c b I) :
    Holds (iblk m c 0 t) (iblk m c 2 t) (iblk m c 3 t) (iblk m c 4 t) (iblk m c 5 t) (iblk m c 6 t) (iblk m c 7 t) (iblk m c 8 t)
      (iblk m c 9 t) (rowOf (grid0.coords t) (segs m c)) I where
  x j d := (block_x m c t b hb j d).trans (R.x j d)
  wq o d := (block_wq m c t d o).trans (R.wq o d)
  wk o d := (block_wk m c t d o).trans (R.wk o d)
  wv o d := (block_wv m c t d o).trans (R.wv o d)
  wo o d := (block_wo m c t d o).trans (R.wo o d)
  bq d := (block_bq m c t d).trans (R.bq d)
  bk d := (block_bk m c t d).trans (R.bk d)
  bv d := (block_bv m c t d).trans (R.bv d)
  bo d := (block_bo m c t d).trans (R.bo d)
  sg j := by
    have e : rowMarks (iblk m c 1 point0) b = row (m ((c : Thread nD τ).loc main_arg1)) b := funext fun j => block_marks m c point0 b j
    rw [rowOf_eq t b hb, R.sg, ← e]
    exact segOf_eq _ b j

/-- Different points write different blocks. -/
theorem index_inj (t t' : Fin cfg0.N) (h : win0_10.index t = win0_10.index t') : t = t' :=
  (by decide +kernel : ∀ t t' : Fin grid0.N, win0_10.index t = win0_10.index t' → t = t') t t' h

/-- The kernel's array holds every row's outputs. -/
theorem array_eq (b : Fin 8) {I : Inp} (R : ReadsAt m c b I) (s : Fin 2048) (d : Fin 768) :
    (dats m 0 c).arrAt 10 cfg0.N (ix3 b s d) = outVal I s d := by
  have hN : b.val < cfg0.N := lt_of_lt_of_eq b.isLt N_0.symm
  have hf : (cfg0.win 10).flush ⟨b.val, hN⟩ = true := (by decide +kernel : ∀ t : Fin grid0.N, win0_10.flush t = true) ⟨b.val, hN⟩
  have h := congrFun ((dats m 0 c).read_blk_arrAt_eq_flushed 10
    (fun t t' _ _ hne => (cfg0.win 10).disjoint_blk fun h => hne (index_inj t t' h)) cfg0.N ⟨b.val, hN⟩ hN hf) (ix3 0 s d)
  have e : ((cfg0.win 10).blk ⟨b.val, hN⟩).view.emb (ix3 0 s d) = ix3 b s d := by
    funext a
    apply Fin.ext
    have e := (by decide +kernel : ∀ t : Fin grid0.N, win0_10.index t = ![t.val, 0, 0]) ⟨b.val, hN⟩
    match a with
    | ⟨0, _⟩ => show win0_10.index ⟨b.val, hN⟩ (0 : Fin 3) * 1 + 1 * 0 = b.val; rw [e]; show b.val * 1 + 1 * 0 = b.val; omega
    | ⟨1, _⟩ => show win0_10.index ⟨b.val, hN⟩ (1 : Fin 3) * 2048 + 1 * s.val = s.val; rw [e]; show 0 * 2048 + 1 * s.val = s.val; omega
    | ⟨2, _⟩ => show win0_10.index ⟨b.val, hN⟩ (2 : Fin 3) * 768 + 1 * d.val = d.val; rw [e]; show 0 * 768 + 1 * d.val = d.val; omega
  have h' : (dats m 0 c).arrAt 10 cfg0.N (((cfg0.win 10).blk ⟨b.val, hN⟩).view.emb (ix3 0 s d)) = outAt m c ⟨b.val, hN⟩ (ix3 0 s d) := by
    refine Eq.trans h ?_
    show (dats m 0 c).after 10 ⟨b.val, hN⟩ _ = _
    rw [after_10]
    rfl
  rw [e] at h'
  exact h'.trans (out_eq (holds m c ⟨b.val, hN⟩ b rfl R) (ordered I _ R.sg) _ s d)

end Cert.KernelIdeal.Hand

end
-- ==== Proof.Algebraic.lean ====
module

public import proofs.«01_k».proof.Proof.Frames
public import proofs.«01_k».proof.Proof.Pre
public import proofs.«01_k».proof.Proof.Final
public import proofs.«01_k».proof.Proof.Gen.Pre_clamp_idle

/-! The kernel and the reference end with equal results. -/

@[expose] public section

noncomputable section

namespace Cert.Proof

open Idealize.ShloMosaic Idealize.SL.Sem

instance : Cert.Pre_clamp_idle.Facts := Cert.Pre_clamp_idle.Gen.facts

/-- Under the precondition the kernel keeps its arguments too. -/
theorem ideal_frame_pre : Cert.quiescent_KernelIdeal_pre_clamp_idle := fun m ρ _ => Cert.KernelIdeal.Hand.frame m ρ

/-- So does the reference. -/
theorem reference_frame_pre : Cert.quiescent_ReferenceIdeal_pre_clamp_idle := fun m ρ _ => reference_frame m ρ trivial

section

variable {x0 : FVec Ideal Cert.KernelIdeal.S8x2048x768 .f32} {x1 : IVec Cert.KernelIdeal.S8x2048 32}
  {x2 x3 x4 x8 : FVec Ideal Cert.KernelIdeal.S768x768 .f32} {x5 x6 x7 x9 : FVec Ideal Cert.KernelIdeal.S768 .f32}

/-- The reference's value at an index. -/
theorem value_eq (P : Cert.Pre_clamp_idle.fn (F := Ideal) x0 x1 x2 x3 x4 x5 x6 x7 x8 x9 = fun _ => 1#1) (b : Fin 8) (s : Fin 2048)
    (d : Fin 768) :
    Cert.ReferenceIdeal.Read.val_main_v164 (F := Ideal) x0 x1 x2 x3 x4 x5 x6 x7 x8 x9 (ix3 b s d)
      = Cert.KernelIdeal.Hand.outVal (inpOf x0 x1 x2 x3 x4 x8 x5 x6 x7 x9 b) s d := by
  have R := reads_of_pre x0 x1 x2 x3 x4 x8 x5 x6 x7 x9 P b
  exact ref_out R (inpOf x0 x1 x2 x3 x4 x8 x5 x6 x7 x9 b).top
    (fun s g hs => den_of_pre x0 x1 x2 x3 x4 x8 x5 x6 x7 x9 P R s g hs) s d

/-- Equal arguments give equal values. -/
theorem value_congr {y0 : FVec Ideal Cert.KernelIdeal.S8x2048x768 .f32} {y1 : IVec Cert.KernelIdeal.S8x2048 32}
    {y2 y3 y4 y8 : FVec Ideal Cert.KernelIdeal.S768x768 .f32} {y5 y6 y7 y9 : FVec Ideal Cert.KernelIdeal.S768 .f32}
    (h0 : x0 = y0) (h1 : x1 = y1) (h2 : x2 = y2) (h3 : x3 = y3) (h4 : x4 = y4) (h5 : x5 = y5) (h6 : x6 = y6) (h7 : x7 = y7)
    (h8 : x8 = y8) (h9 : x9 = y9) :
    Cert.ReferenceIdeal.Read.val_main_v164 (F := Ideal) x0 x1 x2 x3 x4 x5 x6 x7 x8 x9
      = Cert.ReferenceIdeal.Read.val_main_v164 (F := Ideal) y0 y1 y2 y3 y4 y5 y6 y7 y8 y9 := by
  rw [h0, h1, h2, h3, h4, h5, h6, h7, h8, h9]

end

/-- The array the kernel leaves is the reference's value of the same arguments. -/
theorem array_value (m : (ℓ : Loc Cert.KernelIdeal.nD Cert.KernelIdeal.τ Cert.KernelIdeal.sig) → Buf (Elt Ideal) ℓ)
    (P : Cert.Pre_KernelIdeal_clamp_idle m) (c : Dev Cert.KernelIdeal.nD) :
    (Cert.KernelIdeal.Hand.dats m 0 c).arrAt 10 Cert.KernelIdeal.cfg0.N
      = Cert.ReferenceIdeal.Read.val_main_v164 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) := by
  funext y
  have e : y = ix3 (n0 := 8) (n1 := 2048) (n2 := 768) (y 0) (y 1) (y 2) := by
    funext a
    match a with
    | ⟨0, _⟩ => rfl
    | ⟨1, _⟩ => rfl
    | ⟨2, _⟩ => rfl
  rw [e]
  exact (Cert.KernelIdeal.Hand.array_eq m c (y 0) (reads_of_pre _ _ _ _ _ _ _ _ _ _ (P c) (y 0)) (y 1) (y 2)).trans
    (value_eq (P c) (y 0) (y 1) (y 2)).symm

/-- Under the precondition the kernel and the reference end with equal results. -/
theorem algebraic : Cert.algebraic_KernelIdeal_ReferenceIdeal_pre_clamp_idle := fun m ρ m' ρ' P same =>
  ⟨fun c => (Cert.KernelIdeal.Hand.dats m 0 c).arrAt 10 Cert.KernelIdeal.cfg0.N,
    (θ_run _ _ _).mono (fun _ h c => ⟨(h.1 c).1 10, h.2.1 c⟩)
      (θ_run_and (Cert.KernelIdeal.Hand.run_main m ρ) (Cert.KernelIdeal.Hand.frame m ρ)),
    (θ_run _ _ _).mono (fun _ h c => ⟨by
      refine (h c).1.trans ((Cert.ReferenceIdeal.Read.val_main_v164_eq (F := Ideal) (StableHlo.launchContents m' c)).trans ?_)
      obtain ⟨e0, e1, e2, e3, e4, e5, e6, e7, e8, e9⟩ := same c
      exact (value_congr e0 e1 e2 e3 e4 e5 e6 e7 e8 e9).trans (array_value m P c).symm, (h c).2⟩) (Cert.ReferenceIdeal.Value.run m' ρ')⟩

end Cert.Proof

end
-- ==== Proof.lean ====
/- The certificate: the frames and the value claim, assembled. -/
module

public import proofs.«01_k».proof.Defs
public import proofs.«01_k».proof.Proof.Algebraic

@[expose] public section

noncomputable section

namespace Cert.Proof

/-- Everything that is claimed. -/
theorem claim : Cert.Claim :=
  ⟨Cert.Kernel.Gen.facts, Cert.KernelIdeal.Gen.facts, Cert.ReferenceIdeal.Gen.facts, Cert.Pre_clamp_idle.Gen.facts,
    kernel_frame, ideal_frame, ideal_frame_pre, reference_frame, reference_frame_pre, trivial, algebraic⟩

end Cert.Proof

end
